-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cells_fit [hPre_cells_fit : Cert.Pre_cells_fit.Facts] (m : (ℓ : Loc Cert.KernelIdeal.nD Cert.KernelIdeal.τ Cert.KernelIdeal.sig) → Buf (Elt Ideal) ℓ) : Prop :=
  ∀ c : Dev Cert.KernelIdeal.nD,
    (Cert.Pre_cells_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_conf_above_padding [hPre_conf_above_padding : Cert.Pre_conf_above_padding.Facts] (m : (ℓ : Loc Cert.KernelIdeal.nD Cert.KernelIdeal.τ Cert.KernelIdeal.sig) → Buf (Elt Ideal) ℓ) : Prop :=
  ∀ c : Dev Cert.KernelIdeal.nD,
    (Cert.Pre_conf_above_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cells_fit [hPre_cells_fit : Cert.Pre_cells_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cells_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_conf_above_padding [hPre_conf_above_padding : Cert.Pre_conf_above_padding.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_conf_above_padding.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_cells_fit [hKernelIdeal : Cert.KernelIdeal.Facts] [hPre_cells_fit : Cert.Pre_cells_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cells_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_conf_above_padding [hKernelIdeal : Cert.KernelIdeal.Facts] [hPre_conf_above_padding : Cert.Pre_conf_above_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_conf_above_padding m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_cells_fit [hReferenceIdeal : Cert.ReferenceIdeal.Facts] [hPre_cells_fit : Cert.Pre_cells_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cells_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Reference32Ideal_pre_conf_above_padding [hReference32Ideal : Cert.Reference32Ideal.Facts] [hPre_conf_above_padding : Cert.Pre_conf_above_padding.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_conf_above_padding m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def preserves_Kernel_KernelIdeal : Prop :=
  True

def algebraic_KernelIdeal_ReferenceIdeal_pre_cells_fit [hKernelIdeal : Cert.KernelIdeal.Facts] [hReferenceIdeal : Cert.ReferenceIdeal.Facts] [hPre_cells_fit : Cert.Pre_cells_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cells_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_Reference32Ideal_pre_conf_above_padding [hKernelIdeal : Cert.KernelIdeal.Facts] [hReference32Ideal : Cert.Reference32Ideal.Facts] [hPre_conf_above_padding : Cert.Pre_conf_above_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.Reference32Ideal.nD Cert.Reference32Ideal.τ Cert.Reference32Ideal.sig) → Buf (Elt Ideal) ℓ) (g' : Dev Cert.Reference32Ideal.nD → PrngReg), Pre_KernelIdeal_conf_above_padding m →
    (∀ c : Dev Cert.KernelIdeal.nD,
      m' ((c.tc : Thread Cert.Reference32Ideal.nD Cert.Reference32Ideal.τ).loc Cert.Reference32Ideal.main_arg0) = m ((c.tc : Thread Cert.KernelIdeal.nD Cert.KernelIdeal.τ).loc Cert.KernelIdeal.main_arg0)
      ∧ m' ((c.tc : Thread Cert.Reference32Ideal.nD Cert.Reference32Ideal.τ).loc Cert.Reference32Ideal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v99) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def Claim : Prop :=
  ∃ (hKernel : Cert.Kernel.Facts) (hKernelIdeal : Cert.KernelIdeal.Facts) (hReferenceIdeal : Cert.ReferenceIdeal.Facts) (hReference32Ideal : Cert.Reference32Ideal.Facts) (hPre_cells_fit : Cert.Pre_cells_fit.Facts) (hPre_conf_above_padding : Cert.Pre_conf_above_padding.Facts),
    quiescent_Kernel (hKernel := hKernel)
    ∧ quiescent_KernelIdeal (hKernelIdeal := hKernelIdeal)
    ∧ quiescent_KernelIdeal_pre_cells_fit (hKernelIdeal := hKernelIdeal) (hPre_cells_fit := hPre_cells_fit)
    ∧ quiescent_KernelIdeal_pre_conf_above_padding (hKernelIdeal := hKernelIdeal) (hPre_conf_above_padding := hPre_conf_above_padding)
    ∧ quiescent_ReferenceIdeal (hReferenceIdeal := hReferenceIdeal)
    ∧ quiescent_ReferenceIdeal_pre_cells_fit (hReferenceIdeal := hReferenceIdeal) (hPre_cells_fit := hPre_cells_fit)
    ∧ quiescent_Reference32Ideal (hReference32Ideal := hReference32Ideal)
    ∧ quiescent_Reference32Ideal_pre_conf_above_padding (hReference32Ideal := hReference32Ideal) (hPre_conf_above_padding := hPre_conf_above_padding)
    ∧ preserves_Kernel_KernelIdeal
    ∧ algebraic_KernelIdeal_ReferenceIdeal_pre_cells_fit (hKernelIdeal := hKernelIdeal) (hReferenceIdeal := hReferenceIdeal) (hPre_cells_fit := hPre_cells_fit)
    ∧ algebraic_KernelIdeal_Reference32Ideal_pre_conf_above_padding (hKernelIdeal := hKernelIdeal) (hReference32Ideal := hReference32Ideal) (hPre_conf_above_padding := hPre_conf_above_padding)
-- ==== Pre_cells_fit.lean ====
abbrev S20000x4 : Shape := ⟨2, ![20000, 4]⟩
abbrev S20000 : Shape := ⟨1, ![20000]⟩
abbrev S20000x1 : Shape := ⟨2, ![20000, 1]⟩
abbrev S_ : Shape := ⟨0, ![]⟩

class Facts : Prop where
  slices_S20000x4_S20000x1_0_0 : S20000x4.Slices ![0, 0] S20000x1
  shapeCasts_S20000x1_S20000 : S20000x1.ShapeCasts S20000
  slices_S20000x4_S20000x1_0_1 : S20000x4.Slices ![0, 1] S20000x1
  slices_S20000x4_S20000x1_0_2 : S20000x4.Slices ![0, 2] S20000x1
  slices_S20000x4_S20000x1_0_3 : S20000x4.Slices ![0, 3] S20000x1
  bcast_S_S20000 : S_.BroadcastsInDim S20000 (![] : Fin 0 → Fin S20000.rank)
  reducesTo_S20000_S_d0 : S20000.ReducesTo [0] S_
  h_S_ : 0 < S_.numel

variable [Facts]

def fn_round {F : FTy → Type} [FloatOps F] (arg0 : FVec F S20000 .f32) : FVec F S20000 .f32 :=
  let v0 : FVec F S20000 .f32 := Host.roundeven arg0
  v0

def fn_part3 {F : FTy → Type} [FloatOps F] (main_v31 : FVec F S20000 .f32) (main_v46 : FVec F S20000 .f32) (main_v49 : FVec F S20000 .f32) (main_v52 : IVec S_ 1) (main_v54 : IVec S20000 1) : IVec S_ 1 :=
  let main_c_15 : IVec S_ 1 := constantI S_ 1 1#1
  let main_v55 : IVec S_ 1 := (fun x v => Host.reduce IntOp.andi x v reducesTo_S20000_S_d0 h_S_) main_v54 main_c_15
  let main_v56 : IVec S_ 1 := andi main_v52 main_v55
  let main_cst_16 : FVec F S_ .f32 := constant S_ .f32 0x4EFFFF80#32
  let main_v57 : FVec F S20000 .f32 := broadcastInDim S20000 ![] bcast_S_S20000 main_cst_16
  let main_v58 : IVec S20000 1 := cmpf .olt main_v31 main_v57
  let main_c_17 : IVec S_ 1 := constantI S_ 1 1#1
  let main_v59 : IVec S_ 1 := (fun x v => Host.reduce IntOp.andi x v reducesTo_S20000_S_d0 h_S_) main_v58 main_c_17
  let main_v60 : IVec S_ 1 := andi main_v56 main_v59
  let main_cst_18 : FVec F S_ .f32 := constant S_ .f32 0x4EFFFF80#32
  let main_v61 : FVec F S20000 .f32 := broadcastInDim S20000 ![] bcast_S_S20000 main_cst_18
  let main_v62 : IVec S20000 1 := cmpf .olt main_v46 main_v61
  let main_c_19 : IVec S_ 1 := constantI S_ 1 1#1
  let main_v63 : IVec S_ 1 := (fun x v => Host.reduce IntOp.andi x v reducesTo_S20000_S_d0 h_S_) main_v62 main_c_19
  let main_v64 : IVec S_ 1 := andi main_v60 main_v63
  let main_cst_20 : FVec F S_ .f32 := constant S_ .f32 0x4EFFFF80#32
  let main_v65 : FVec F S20000 .f32 := broadcastInDim S20000 ![] bcast_S_S20000 main_cst_20
  let main_v66 : IVec S20000 1 := cmpf .olt main_v49 main_v65
  let main_c_21 : IVec S_ 1 := constantI S_ 1 1#1
  let main_v67 : IVec S_ 1 := (fun x v => Host.reduce IntOp.andi x v reducesTo_S20000_S_d0 h_S_) main_v66 main_c_21
  let main_v68 : IVec S_ 1 := andi main_v64 main_v67
  main_v68

def fn_part2 {F : FTy → Type} [FloatOps F] (main_arg1 : FVec F S20000 .f32) (main_v16 : FVec F S20000 .f32) (main_v19 : FVec F S20000 .f32) (main_v25 : FVec F S20000 .f32) (main_v31 : FVec F S20000 .f32) (main_v35 : FVec F S20000 .f32) (main_v36 : FVec F S20000 .f32) : IVec S_ 1 :=
  let main_v37 : FVec F S20000 .f32 := Host.powf main_v36 main_v31
  let main_cst_10 : FVec F S_ .f32 := constant S_ .f32 0x41000000#32
  let main_v38 : FVec F S20000 .f32 := broadcastInDim S20000 ![] bcast_S_S20000 main_cst_10
  let main_v39 : FVec F S20000 .f32 := mulf main_v38 main_v37
  let main_cst_11 : FVec F S_ .f32 := constant S_ .f32 0x3F000000#32
  let main_v40 : FVec F S20000 .f32 := broadcastInDim S20000 ![] bcast_S_S20000 main_cst_11
  let main_v41 : FVec F S20000 .f32 := mulf main_v40 main_v35
  let main_cst_12 : FVec F S_ .f32 := constant S_ .f32 0x3F000000#32
  let main_v42 : FVec F S20000 .f32 := broadcastInDim S20000 ![] bcast_S_S20000 main_cst_12
  let main_v43 : FVec F S20000 .f32 := mulf main_v42 main_v39
  let main_v44 : FVec F S20000 .f32 := subf main_v16 main_v41
  let main_v45 : FVec F S20000 .f32 := Host.divf main_v44 main_v35
  let main_v46 : FVec F S20000 .f32 := fn_round (F := F) main_v45
  let main_v47 : FVec F S20000 .f32 := subf main_v19 main_v43
  let main_v48 : FVec F S20000 .f32 := Host.divf main_v47 main_v39
  let main_v49 : FVec F S20000 .f32 := fn_round (F := F) main_v48
  let main_cst_13 : FVec F S_ .f32 := constant S_ .f32 0xBF800000#32
  let main_v50 : FVec F S20000 .f32 := broadcastInDim S20000 ![] bcast_S_S20000 main_cst_13
  let main_v51 : IVec S20000 1 := cmpf .oge main_arg1 main_v50
  let main_c : IVec S_ 1 := constantI S_ 1 1#1
  let main_v52 : IVec S_ 1 := (fun x v => Host.reduce IntOp.andi x v reducesTo_S20000_S_d0 h_S_) main_v51 main_c
  let main_cst_14 : FVec F S_ .f32 := constant S_ .f32 0x4EFFFF80#32
  let main_v53 : FVec F S20000 .f32 := broadcastInDim S20000 ![] bcast_S_S20000 main_cst_14
  let main_v54 : IVec S20000 1 := cmpf .olt main_v25 main_v53
  fn_part3 (F := F) main_v31 main_v46 main_v49 main_v52 main_v54

def fn_part1 {F : FTy → Type} [FloatOps F] (main_arg1 : FVec F S20000 .f32) (main_v10 : FVec F S20000 .f32) (main_v13 : FVec F S20000 .f32) (main_v16 : FVec F S20000 .f32) (main_v19 : FVec F S20000 .f32) : IVec S_ 1 :=
  let main_cst_3 : FVec F S_ .f32 := constant S_ .f32 0x41800000#32
  let main_v20 : FVec F S20000 .f32 := broadcastInDim S20000 ![] bcast_S_S20000 main_cst_3
  let main_v21 : FVec F S20000 .f32 := Host.divf main_v10 main_v20
  let main_v22 : FVec F S20000 .f32 := Host.log main_v21
  let main_cst_4 : FVec F S_ .f32 := constant S_ .f32 0x3ECF991F#32
  let main_v23 : FVec F S20000 .f32 := broadcastInDim S20000 ![] bcast_S_S20000 main_cst_4
  let main_v24 : FVec F S20000 .f32 := Host.divf main_v22 main_v23
  let main_v25 : FVec F S20000 .f32 := fn_round (F := F) main_v24
  let main_cst_5 : FVec F S_ .f32 := constant S_ .f32 0x41800000#32
  let main_v26 : FVec F S20000 .f32 := broadcastInDim S20000 ![] bcast_S_S20000 main_cst_5
  let main_v27 : FVec F S20000 .f32 := Host.divf main_v13 main_v26
  let main_v28 : FVec F S20000 .f32 := Host.log main_v27
  let main_cst_6 : FVec F S_ .f32 := constant S_ .f32 0x3ECF991F#32
  let main_v29 : FVec F S20000 .f32 := broadcastInDim S20000 ![] bcast_S_S20000 main_cst_6
  let main_v30 : FVec F S20000 .f32 := Host.divf main_v28 main_v29
  let main_v31 : FVec F S20000 .f32 := fn_round (F := F) main_v30
  let main_cst_7 : FVec F S_ .f32 := constant S_ .f32 0x3FC00000#32
  let main_v32 : FVec F S20000 .f32 := broadcastInDim S20000 ![] bcast_S_S20000 main_cst_7
  let main_v33 : FVec F S20000 .f32 := Host.powf main_v32 main_v25
  let main_cst_8 : FVec F S_ .f32 := constant S_ .f32 0x41000000#32
  let main_v34 : FVec F S20000 .f32 := broadcastInDim S20000 ![] bcast_S_S20000 main_cst_8
  let main_v35 : FVec F S20000 .f32 := mulf main_v34 main_v33
  let main_cst_9 : FVec F S_ .f32 := constant S_ .f32 0x3FC00000#32
  let main_v36 : FVec F S20000 .f32 := broadcastInDim S20000 ![] bcast_S_S20000 main_cst_9
  fn_part2 (F := F) main_arg1 main_v16 main_v19 main_v25 main_v31 main_v35 main_v36

def fn {F : FTy → Type} [FloatOps F] (main_arg0 : FVec F S20000x4 .f32) (main_arg1 : FVec F S20000 .f32) : IVec S_ 1 :=
  let main_v0 : FVec F S20000x1 .f32 := (extractStridedSlice S20000x1 ![0, 0] · slices_S20000x4_S20000x1_0_0) main_arg0
  let main_v1 : FVec F S20000 .f32 := shapeCast S20000 main_v0 shapeCasts_S20000x1_S20000
  let main_v2 : FVec F S20000x1 .f32 := (extractStridedSlice S20000x1 ![0, 1] · slices_S20000x4_S20000x1_0_1) main_arg0
  let main_v3 : FVec F S20000 .f32 := shapeCast S20000 main_v2 shapeCasts_S20000x1_S20000
  let main_v4 : FVec F S20000x1 .f32 := (extractStridedSlice S20000x1 ![0, 2] · slices_S20000x4_S20000x1_0_2) main_arg0
  let main_v5 : FVec F S20000 .f32 := shapeCast S20000 main_v4 shapeCasts_S20000x1_S20000
  let main_v6 : FVec F S20000x1 .f32 := (extractStridedSlice S20000x1 ![0, 3] · slices_S20000x4_S20000x1_0_3) main_arg0
  let main_v7 : FVec F S20000 .f32 := shapeCast S20000 main_v6 shapeCasts_S20000x1_S20000
  let main_v8 : FVec F S20000 .f32 := subf main_v5 main_v1
  let main_cst : FVec F S_ .f32 := constant S_ .f32 0x358637BD#32
  let main_v9 : FVec F S20000 .f32 := broadcastInDim S20000 ![] bcast_S_S20000 main_cst
  let main_v10 : FVec F S20000 .f32 := maximumf main_v8 main_v9
  let main_v11 : FVec F S20000 .f32 := subf main_v7 main_v3
  let main_cst_0 : FVec F S_ .f32 := constant S_ .f32 0x358637BD#32
  let main_v12 : FVec F S20000 .f32 := broadcastInDim S20000 ![] bcast_S_S20000 main_cst_0
  let main_v13 : FVec F S20000 .f32 := maximumf main_v11 main_v12
  let main_v14 : FVec F S20000 .f32 := addf main_v1 main_v5
  let main_cst_1 : FVec F S_ .f32 := constant S_ .f32 0x3F000000#32
  let main_v15 : FVec F S20000 .f32 := broadcastInDim S20000 ![] bcast_S_S20000 main_cst_1
  let main_v16 : FVec F S20000 .f32 := mulf main_v14 main_v15
  let main_v17 : FVec F S20000 .f32 := addf main_v3 main_v7
  let main_cst_2 : FVec F S_ .f32 := constant S_ .f32 0x3F000000#32
  let main_v18 : FVec F S20000 .f32 := broadcastInDim S20000 ![] bcast_S_S20000 main_cst_2
  let main_v19 : FVec F S20000 .f32 := mulf main_v17 main_v18
  fn_part1 (F := F) main_arg1 main_v10 main_v13 main_v16 main_v19
-- ==== Pre_conf_above_padding.lean ====
abbrev S20000x4 : Shape := ⟨2, ![20000, 4]⟩
abbrev S20000 : Shape := ⟨1, ![20000]⟩
abbrev S_ : Shape := ⟨0, ![]⟩

class Facts : Prop where
  bcast_S_S20000 : S_.BroadcastsInDim S20000 (![] : Fin 0 → Fin S20000.rank)
  reducesTo_S20000_S_d0 : S20000.ReducesTo [0] S_
  h_S_ : 0 < S_.numel

variable [Facts]

def fn {F : FTy → Type} [FloatOps F] (main_arg0 : FVec F S20000x4 .f32) (main_arg1 : FVec F S20000 .f32) : IVec S_ 1 :=
  let main_cst : FVec F S_ .f32 := constant S_ .f32 0xBF800000#32
  let main_v0 : FVec F S20000 .f32 := broadcastInDim S20000 ![] bcast_S_S20000 main_cst
  let main_v1 : IVec S20000 1 := cmpf .oge main_arg1 main_v0
  let main_c : IVec S_ 1 := constantI S_ 1 1#1
  let main_v2 : IVec S_ 1 := (fun x v => Host.reduce IntOp.andi x v reducesTo_S20000_S_d0 h_S_) main_v1 main_c
  main_v2
-- ==== Kernel.lean ====
abbrev S20000x4 : Shape := ⟨2, ![20000, 4]⟩
abbrev S20000 : Shape := ⟨1, ![20000]⟩
abbrev S_ : Shape := ⟨0, ![]⟩
abbrev S20480x4 : Shape := ⟨2, ![20480, 4]⟩
abbrev S20480 : Shape := ⟨1, ![20480]⟩
abbrev S20480x1 : Shape := ⟨2, ![20480, 1]⟩
abbrev S1x20480 : Shape := ⟨2, ![1, 20480]⟩
abbrev S4x20480 : Shape := ⟨2, ![4, 20480]⟩
abbrev S2048x4 : Shape := ⟨2, ![2048, 4]⟩
abbrev S4x4096 : Shape := ⟨2, ![4, 4096]⟩
abbrev S2048x1 : Shape := ⟨2, ![2048, 1]⟩
abbrev S1x4096 : Shape := ⟨2, ![1, 4096]⟩
abbrev S2048x4096 : Shape := ⟨2, ![2048, 4096]⟩
abbrev S2048 : Shape := ⟨1, ![2048]⟩
abbrev S20000x1 : Shape := ⟨2, ![20000, 1]⟩
abbrev S20000x5 : Shape := ⟨2, ![20000, 5]⟩

abbrev nBuf : Space → Nat
  | .hbm => 29
  | .vmem => 10
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S_, .i32⟩
  | .hbm, ⟨3, _⟩ => ⟨S_, .f32⟩
  | .hbm, ⟨4, _⟩ => ⟨S20480x4, .f32⟩
  | .hbm, ⟨5, _⟩ => ⟨S_, .i32⟩
  | .hbm, ⟨6, _⟩ => ⟨S_, .f32⟩
  | .hbm, ⟨7, _⟩ => ⟨S20480, .f32⟩
  | .hbm, ⟨8, _⟩ => ⟨S20480x1, .f32⟩
  | .hbm, ⟨9, _⟩ => ⟨S_, .i32⟩
  | .hbm, ⟨10, _⟩ => ⟨S_, .f32⟩
  | .hbm, ⟨11, _⟩ => ⟨S20480x4, .f32⟩
  | .hbm, ⟨12, _⟩ => ⟨S_, .f32⟩
  | .hbm, ⟨13, _⟩ => ⟨S_, .f32⟩
  | .hbm, ⟨14, _⟩ => ⟨S20480, .f32⟩
  | .hbm, ⟨15, _⟩ => ⟨S1x20480, .f32⟩
  | .hbm, ⟨16, _⟩ => ⟨S4x20480, .f32⟩
  | .hbm, ⟨17, _⟩ => ⟨S20480x1, .f32⟩
  | .hbm, ⟨18, _⟩ => ⟨S20000x1, .f32⟩
  | .hbm, ⟨19, _⟩ => ⟨S20000, .f32⟩
  | .hbm, ⟨20, _⟩ => ⟨S_, .f32⟩
  | .hbm, ⟨21, _⟩ => ⟨S20000, .f32⟩
  | .hbm, ⟨22, _⟩ => ⟨S20000, .f32⟩
  | .hbm, ⟨23, _⟩ => ⟨S20000x1, .f32⟩
  | .hbm, ⟨24, _⟩ => ⟨S20000x4, .f32⟩
  | .hbm, ⟨25, _⟩ => ⟨S20000x4, .f32⟩
  | .hbm, ⟨26, _⟩ => ⟨S20000, .f32⟩
  | .hbm, ⟨27, _⟩ => ⟨S20000x1, .f32⟩
  | .hbm, ⟨28, _⟩ => ⟨S20000x5, .f32⟩
  | .local _ .vmem, ⟨0, _⟩ => ⟨S2048x4, .f32⟩
  | .local _ .vmem, ⟨1, _⟩ => ⟨S2048x4, .f32⟩
  | .local _ .vmem, ⟨2, _⟩ => ⟨S4x4096, .f32⟩
  | .local _ .vmem, ⟨3, _⟩ => ⟨S4x4096, .f32⟩
  | .local _ .vmem, ⟨4, _⟩ => ⟨S2048x1, .f32⟩
  | .local _ .vmem, ⟨5, _⟩ => ⟨S2048x1, .f32⟩
  | .local _ .vmem, ⟨6, _⟩ => ⟨S1x4096, .f32⟩
  | .local _ .vmem, ⟨7, _⟩ => ⟨S1x4096, .f32⟩
  | .local _ .vmem, ⟨8, _⟩ => ⟨S2048x1, .f32⟩
  | .local _ .vmem, ⟨9, _⟩ => ⟨S2048x1, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_call2_v0 : Ref sig .tc := ⟨.hbm, 10, rfl⟩
abbrev main_v3 : Ref sig .tc := ⟨.hbm, 11, rfl⟩
abbrev main_cst : Ref sig .tc := ⟨.hbm, 12, rfl⟩
abbrev main_call3_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![10, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg0 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg0 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg0 c0_i32
  let c0_i32_0 : BitVec 32 := 0#32
  ![arg0.toNat, v0.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S1x20000 : Shape := ⟨2, ![1, 20000]⟩
abbrev S20000x20000 : Shape := ⟨2, ![20000, 20000]⟩
abbrev S20000x5 : Shape := ⟨2, ![20000, 5]⟩

abbrev nBuf : Space → Nat
  | .hbm => 153
  | .vmem => 0
  | .smem => 0
  | _ => 0

abbrev hbmTy0_0 (i : Nat) : BufTy := match i % 128 with
  | 0 => ⟨S20000x4, .f32⟩
  | 1 => ⟨S20000, .f32⟩
  | 2 => ⟨S20000x1, .f32⟩
  | 3 => ⟨S20000, .f32⟩
  | 4 => ⟨S20000x1, .f32⟩
  | 5 => ⟨S20000, .f32⟩
  | 6 => ⟨S20000x1, .f32⟩
  | 7 => ⟨S20000, .f32⟩
  | 8 => ⟨S20000x1, .f32⟩
  | 9 => ⟨S20000, .f32⟩
  | 10 => ⟨S20000, .f32⟩
  | 11 => ⟨S_, .f32⟩
  | 12 => ⟨S20000, .f32⟩
  | 13 => ⟨S20000, .f32⟩
  | 14 => ⟨S20000, .f32⟩
  | 15 => ⟨S_, .f32⟩
  | 16 => ⟨S20000, .f32⟩
  | 17 => ⟨S20000, .f32⟩
  | 18 => ⟨S20000, .f32⟩
  | 19 => ⟨S_, .f32⟩
  | 20 => ⟨S20000, .f32⟩
  | 21 => ⟨S20000, .f32⟩
  | 22 => ⟨S20000, .f32⟩
  | 23 => ⟨S_, .f32⟩
  | 24 => ⟨S20000, .f32⟩
  | 25 => ⟨S20000, .f32⟩
  | 26 => ⟨S_, .f32⟩
  | 27 => ⟨S20000, .f32⟩
  | 28 => ⟨S20000, .f32⟩
  | 29 => ⟨S20000, .f32⟩
  | 30 => ⟨S_, .f32⟩
  | 31 => ⟨S20000, .f32⟩
  | 32 => ⟨S20000, .f32⟩
  | 33 => ⟨S20000, .f32⟩
  | 34 => ⟨S_, .f32⟩
  | 35 => ⟨S20000, .f32⟩
  | 36 => ⟨S20000, .f32⟩
  | 37 => ⟨S20000, .f32⟩
  | 38 => ⟨S_, .f32⟩
  | 39 => ⟨S20000, .f32⟩
  | 40 => ⟨S20000, .f32⟩
  | 41 => ⟨S20000, .f32⟩
  | 42 => ⟨S_, .f32⟩
  | 43 => ⟨S20000, .f32⟩
  | 44 => ⟨S20000, .f32⟩
  | 45 => ⟨S_, .f32⟩
  | 46 => ⟨S20000, .f32⟩
  | 47 => ⟨S20000, .f32⟩
  | 48 => ⟨S_, .f32⟩
  | 49 => ⟨S20000, .f32⟩
  | 50 => ⟨S20000, .f32⟩
  | 51 => ⟨S_, .f32⟩
  | 52 => ⟨S20000, .f32⟩
  | 53 => ⟨S20000, .f32⟩
  | 54 => ⟨S_, .f32⟩
  | 55 => ⟨S20000, .f32⟩
  | 56 => ⟨S20000, .f32⟩
  | 57 => ⟨S_, .f32⟩
  | 58 => ⟨S20000, .f32⟩
  | 59 => ⟨S20000, .f32⟩
  | 60 => ⟨S20000, .f32⟩
  | 61 => ⟨S20000, .f32⟩
  | 62 => ⟨S20000, .f32⟩
  | 63 => ⟨S20000, .f32⟩
  | 64 => ⟨S20000, .f32⟩
  | 65 => ⟨S20000, .f32⟩
  | 66 => ⟨S_, .f32⟩
  | 67 => ⟨S_, .f32⟩
  | 68 => ⟨S_, .f32⟩
  | 69 => ⟨S20000, .f32⟩
  | 70 => ⟨S20000, .f32⟩
  | 71 => ⟨S_, .f32⟩
  | 72 => ⟨S20000, .f32⟩
  | 73 => ⟨S20000, .f32⟩
  | 74 => ⟨S20000, .i32⟩
  | 75 => ⟨S_, .i32⟩
  | 76 => ⟨S20000, .i32⟩
  | 77 => ⟨S20000, .i32⟩
  | 78 => ⟨S_, .f32⟩
  | 79 => ⟨S_, .f32⟩
  | 80 => ⟨S_, .f32⟩
  | 81 => ⟨S20000, .f32⟩
  | 82 => ⟨S20000, .f32⟩
  | 83 => ⟨S_, .f32⟩
  | 84 => ⟨S20000, .f32⟩
  | 85 => ⟨S20000, .f32⟩
  | 86 => ⟨S20000, .i32⟩
  | 87 => ⟨S_, .i32⟩
  | 88 => ⟨S20000, .i32⟩
  | 89 => ⟨S20000, .i32⟩
  | 90 => ⟨S_, .f32⟩
  | 91 => ⟨S_, .f32⟩
  | 92 => ⟨S_, .f32⟩
  | 93 => ⟨S20000, .f32⟩
  | 94 => ⟨S20000, .f32⟩
  | 95 => ⟨S_, .f32⟩
  | 96 => ⟨S20000, .f32⟩
  | 97 => ⟨S20000, .f32⟩
  | 98 => ⟨S20000, .i32⟩
  | 99 => ⟨S_, .i32⟩
  | 100 => ⟨S20000, .i32⟩
  | 101 => ⟨S20000, .i32⟩
  | 102 => ⟨S_, .f32⟩
  | 103 => ⟨S_, .f32⟩
  | 104 => ⟨S_, .f32⟩
  | 105 => ⟨S20000, .f32⟩
  | 106 => ⟨S20000, .f32⟩
  | 107 => ⟨S_, .f32⟩
  | 108 => ⟨S20000, .f32⟩
  | 109 => ⟨S20000, .f32⟩
  | 110 => ⟨S20000, .i32⟩
  | 111 => ⟨S_, .i32⟩
  | 112 => ⟨S20000, .i32⟩
  | 113 => ⟨S20000, .i32⟩
  | 114 => ⟨S20000x1, .i32⟩
  | 115 => ⟨S1x20000, .i32⟩
  | 116 => ⟨S20000x20000, .i32⟩
  | 117 => ⟨S20000x20000, .i32⟩
  | 118 => ⟨S20000x20000, .i1⟩
  | 119 => ⟨S20000x1, .i32⟩
  | 120 => ⟨S1x20000, .i32⟩
  | 121 => ⟨S20000x20000, .i32⟩
  | 122 => ⟨S20000x20000, .i32⟩
  | 123 => ⟨S20000x20000, .i1⟩
  | 124 => ⟨S20000x20000, .i1⟩
  | 125 => ⟨S20000x1, .i32⟩
  | 126 => ⟨S1x20000, .i32⟩
  | 127 => ⟨S20000x20000, .i32⟩
  | _ => ⟨S20000x4, .f32⟩

abbrev hbmTy0_1 (i : Nat) : BufTy := match i % 128 with
  | 0 => ⟨S20000x20000, .i32⟩
  | 1 => ⟨S20000x20000, .i1⟩
  | 2 => ⟨S20000x20000, .i1⟩
  | 3 => ⟨S20000x1, .i32⟩
  | 4 => ⟨S1x20000, .i32⟩
  | 5 => ⟨S20000x20000, .i32⟩
  | 6 => ⟨S20000x20000, .i32⟩
  | 7 => ⟨S20000x20000, .i1⟩
  | 8 => ⟨S20000x20000, .i1⟩
  | 9 => ⟨S1x20000, .f32⟩
  | 10 => ⟨S_, .f32⟩
  | 11 => ⟨S_, .f32⟩
  | 12 => ⟨S20000x20000, .f32⟩
  | 13 => ⟨S20000x20000, .f32⟩
  | 14 => ⟨S20000x20000, .f32⟩
  | 15 => ⟨S_, .f32⟩
  | 16 => ⟨S20000, .f32⟩
  | 17 => ⟨S20000, .i1⟩
  | 18 => ⟨S20000, .f32⟩
  | 19 => ⟨S20000x1, .f32⟩
  | 20 => ⟨S20000x4, .f32⟩
  | 21 => ⟨S20000x4, .f32⟩
  | 22 => ⟨S20000, .f32⟩
  | 23 => ⟨S20000x1, .f32⟩
  | 24 => ⟨S20000x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_cst_12 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_13 : Ref sig .tc := ⟨.hbm, 66, rfl⟩
abbrev main_cst_14 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_v50 : Ref sig .tc := ⟨.hbm, 73, rfl⟩
abbrev main_v51 : Ref sig .tc := ⟨.hbm, 74, rfl⟩
abbrev main_c : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_cst_16 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_v54 : Ref sig .tc := ⟨.hbm, 85, rfl⟩
abbrev main_v55 : Ref sig .tc := ⟨.hbm, 86, rfl⟩
abbrev main_c_17 : Ref sig .tc := ⟨.hbm, 87, rfl⟩
abbrev main_v56 : Ref sig .tc := ⟨.hbm, 88, rfl⟩
abbrev main_v57 : Ref sig .tc := ⟨.hbm, 89, rfl⟩
abbrev main_cst_18 : Ref sig .tc := ⟨.hbm, 90, rfl⟩
abbrev main_cst_19 : Ref sig .tc := ⟨.hbm, 91, rfl⟩
abbrev main_call6_v0 : Ref sig .tc := ⟨.hbm, 92, rfl⟩
abbrev main_call6_v1 : Ref sig .tc := ⟨.hbm, 93, rfl⟩
abbrev main_call6_v2 : Ref sig .tc := ⟨.hbm, 94, rfl⟩
abbrev main_call6_v3 : Ref sig .tc := ⟨.hbm, 95, rfl⟩
abbrev main_call6_v4 : Ref sig .tc := ⟨.hbm, 96, rfl⟩
abbrev main_v58 : Ref sig .tc := ⟨.hbm, 97, rfl⟩
abbrev main_v59 : Ref sig .tc := ⟨.hbm, 98, rfl⟩
abbrev main_c_20 : Ref sig .tc := ⟨.hbm, 99, rfl⟩
abbrev main_v60 : Ref sig .tc := ⟨.hbm, 100, rfl⟩
abbrev main_v61 : Ref sig .tc := ⟨.hbm, 101, rfl⟩
abbrev main_cst_21 : Ref sig .tc := ⟨.hbm, 102, rfl⟩
abbrev main_cst_22 : Ref sig .tc := ⟨.hbm, 103, rfl⟩
abbrev main_call7_v0 : Ref sig .tc := ⟨.hbm, 104, rfl⟩
abbrev main_call7_v1 : Ref sig .tc := ⟨.hbm, 105, rfl⟩
abbrev main_call7_v2 : Ref sig .tc := ⟨.hbm, 106, rfl⟩
abbrev main_call7_v3 : Ref sig .tc := ⟨.hbm, 107, rfl⟩
abbrev main_call7_v4 : Ref sig .tc := ⟨.hbm, 108, rfl⟩
abbrev main_v62 : Ref sig .tc := ⟨.hbm, 109, rfl⟩
abbrev main_v63 : Ref sig .tc := ⟨.hbm, 110, rfl⟩
abbrev main_c_23 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_24 : Ref sig .tc := ⟨.hbm, 138, rfl⟩
abbrev main_call8_v0 : Ref sig .tc := ⟨.hbm, 139, rfl⟩
abbrev main_call8_v1 : Ref sig .tc := ⟨.hbm, 140, rfl⟩
abbrev main_call8_v2 : Ref sig .tc := ⟨.hbm, 141, rfl⟩
abbrev main_v90 : Ref sig .tc := ⟨.hbm, 142, rfl⟩
abbrev main_cst_25 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩

abbrev nD : Nat := 1
abbrev τ : Topo := Topo.v7x

variable {F : FTy → Type} [FloatOps F]
-- ==== Reference32Ideal.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S1x20000 : Shape := ⟨2, ![1, 20000]⟩
abbrev S20000x20000 : Shape := ⟨2, ![20000, 20000]⟩
abbrev S20000x5 : Shape := ⟨2, ![20000, 5]⟩

abbrev nBuf : Space → Nat
  | .hbm => 153
  | .vmem => 0
  | .smem => 0
  | _ => 0

abbrev hbmTy0_0 (i : Nat) : BufTy := match i % 128 with
  | 0 => ⟨S20000x4, .f32⟩
  | 1 => ⟨S20000, .f32⟩
  | 2 => ⟨S20000x1, .f32⟩
  | 3 => ⟨S20000, .f32⟩
  | 4 => ⟨S20000x1, .f32⟩
  | 5 => ⟨S20000, .f32⟩
  | 6 => ⟨S20000x1, .f32⟩
  | 7 => ⟨S20000, .f32⟩
  | 8 => ⟨S20000x1, .f32⟩
  | 9 => ⟨S20000, .f32⟩
  | 10 => ⟨S20000, .f32⟩
  | 11 => ⟨S_, .f32⟩
  | 12 => ⟨S20000, .f32⟩
  | 13 => ⟨S20000, .f32⟩
  | 14 => ⟨S20000, .f32⟩
  | 15 => ⟨S_, .f32⟩
  | 16 => ⟨S20000, .f32⟩
  | 17 => ⟨S20000, .f32⟩
  | 18 => ⟨S20000, .f32⟩
  | 19 => ⟨S_, .f32⟩
  | 20 => ⟨S20000, .f32⟩
  | 21 => ⟨S20000, .f32⟩
  | 22 => ⟨S20000, .f32⟩
  | 23 => ⟨S_, .f32⟩
  | 24 => ⟨S20000, .f32⟩
  | 25 => ⟨S20000, .f32⟩
  | 26 => ⟨S_, .f32⟩
  | 27 => ⟨S20000, .f32⟩
  | 28 => ⟨S20000, .f32⟩
  | 29 => ⟨S20000, .f32⟩
  | 30 => ⟨S_, .f32⟩
  | 31 => ⟨S20000, .f32⟩
  | 32 => ⟨S20000, .f32⟩
  | 33 => ⟨S20000, .f32⟩
  | 34 => ⟨S_, .f32⟩
  | 35 => ⟨S20000, .f32⟩
  | 36 => ⟨S20000, .f32⟩
  | 37 => ⟨S20000, .f32⟩
  | 38 => ⟨S_, .f32⟩
  | 39 => ⟨S20000, .f32⟩
  | 40 => ⟨S20000, .f32⟩
  | 41 => ⟨S20000, .f32⟩
  | 42 => ⟨S_, .f32⟩
  | 43 => ⟨S20000, .f32⟩
  | 44 => ⟨S20000, .f32⟩
  | 45 => ⟨S_, .f32⟩
  | 46 => ⟨S20000, .f32⟩
  | 47 => ⟨S20000, .f32⟩
  | 48 => ⟨S_, .f32⟩
  | 49 => ⟨S20000, .f32⟩
  | 50 => ⟨S20000, .f32⟩
  | 51 => ⟨S_, .f32⟩
  | 52 => ⟨S20000, .f32⟩
  | 53 => ⟨S20000, .f32⟩
  | 54 => ⟨S_, .f32⟩
  | 55 => ⟨S20000, .f32⟩
  | 56 => ⟨S20000, .f32⟩
  | 57 => ⟨S_, .f32⟩
  | 58 => ⟨S20000, .f32⟩
  | 59 => ⟨S20000, .f32⟩
  | 60 => ⟨S20000, .f32⟩
  | 61 => ⟨S20000, .f32⟩
  | 62 => ⟨S20000, .f32⟩
  | 63 => ⟨S20000, .f32⟩
  | 64 => ⟨S20000, .f32⟩
  | 65 => ⟨S20000, .f32⟩
  | 66 => ⟨S20000, .i32⟩
  | 67 => ⟨S_, .i32⟩
  | 68 => ⟨S20000, .i32⟩
  | 69 => ⟨S20000, .i32⟩
  | 70 => ⟨S_, .i32⟩
  | 71 => ⟨S_, .i32⟩
  | 72 => ⟨S_, .i32⟩
  | 73 => ⟨S20000, .i32⟩
  | 74 => ⟨S20000, .i32⟩
  | 75 => ⟨S_, .i32⟩
  | 76 => ⟨S20000, .i32⟩
  | 77 => ⟨S20000, .i32⟩
  | 78 => ⟨S20000, .i32⟩
  | 79 => ⟨S_, .i32⟩
  | 80 => ⟨S20000, .i32⟩
  | 81 => ⟨S20000, .i32⟩
  | 82 => ⟨S_, .i32⟩
  | 83 => ⟨S_, .i32⟩
  | 84 => ⟨S_, .i32⟩
  | 85 => ⟨S20000, .i32⟩
  | 86 => ⟨S20000, .i32⟩
  | 87 => ⟨S_, .i32⟩
  | 88 => ⟨S20000, .i32⟩
  | 89 => ⟨S20000, .i32⟩
  | 90 => ⟨S20000, .i32⟩
  | 91 => ⟨S_, .i32⟩
  | 92 => ⟨S20000, .i32⟩
  | 93 => ⟨S20000, .i32⟩
  | 94 => ⟨S_, .i32⟩
  | 95 => ⟨S_, .i32⟩
  | 96 => ⟨S_, .i32⟩
  | 97 => ⟨S20000, .i32⟩
  | 98 => ⟨S20000, .i32⟩
  | 99 => ⟨S_, .i32⟩
  | 100 => ⟨S20000, .i32⟩
  | 101 => ⟨S20000, .i32⟩
  | 102 => ⟨S20000, .i32⟩
  | 103 => ⟨S_, .i32⟩
  | 104 => ⟨S20000, .i32⟩
  | 105 => ⟨S20000, .i32⟩
  | 106 => ⟨S_, .i32⟩
  | 107 => ⟨S_, .i32⟩
  | 108 => ⟨S_, .i32⟩
  | 109 => ⟨S20000, .i32⟩
  | 110 => ⟨S20000, .i32⟩
  | 111 => ⟨S_, .i32⟩
  | 112 => ⟨S20000, .i32⟩
  | 113 => ⟨S20000, .i32⟩
  | 114 => ⟨S20000x1, .i32⟩
  | 115 => ⟨S1x20000, .i32⟩
  | 116 => ⟨S20000x20000, .i32⟩
  | 117 => ⟨S20000x20000, .i32⟩
  | 118 => ⟨S20000x20000, .i1⟩
  | 119 => ⟨S20000x1, .i32⟩
  | 120 => ⟨S1x20000, .i32⟩
  | 121 => ⟨S20000x20000, .i32⟩
  | 122 => ⟨S20000x20000, .i32⟩
  | 123 => ⟨S20000x20000, .i1⟩
  | 124 => ⟨S20000x20000, .i1⟩
  | 125 => ⟨S20000x1, .i32⟩
  | 126 => ⟨S1x20000, .i32⟩
  | 127 => ⟨S20000x20000, .i32⟩
  | _ => ⟨S20000x4, .f32⟩

abbrev hbmTy0_1 (i : Nat) : BufTy := match i % 128 with
  | 0 => ⟨S20000x20000, .i32⟩
  | 1 => ⟨S20000x20000, .i1⟩
  | 2 => ⟨S20000x20000, .i1⟩
  | 3 => ⟨S20000x1, .i32⟩
  | 4 => ⟨S1x20000, .i32⟩
  | 5 => ⟨S20000x20000, .i32⟩
  | 6 => ⟨S20000x20000, .i32⟩
  | 7 => ⟨S20000x20000, .i1⟩
  | 8 => ⟨S20000x20000, .i1⟩
  | 9 => ⟨S1x20000, .f32⟩
  | 10 => ⟨S_, .f32⟩
  | 11 => ⟨S_, .f32⟩
  | 12 => ⟨S20000x20000, .f32⟩
  | 13 => ⟨S20000x20000, .f32⟩
  | 14 => ⟨S20000x20000, .f32⟩
  | 15 => ⟨S_, .f32⟩
  | 16 => ⟨S20000, .f32⟩
  | 17 => ⟨S20000, .i1⟩
  | 18 => ⟨S20000, .f32⟩
  | 19 => ⟨S20000x1, .f32⟩
  | 20 => ⟨S20000x4, .f32⟩
  | 21 => ⟨S20000x4, .f32⟩
  | 22 => ⟨S20000, .f32⟩
  | 23 => ⟨S20000x1, .f32⟩
  | 24 => ⟨S20000x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_cst_12 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c : Ref sig .tc := ⟨.hbm, 67, rfl⟩
abbrev main_v51 : Ref sig .tc := ⟨.hbm, 68, rfl⟩
abbrev main_v52 : Ref sig .tc := ⟨.hbm, 69, rfl⟩
abbrev main_c_13 : Ref sig .tc := ⟨.hbm, 70, rfl⟩
abbrev main_c_14 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_v53 : Ref sig .tc := ⟨.hbm, 77, rfl⟩
abbrev main_v54 : Ref sig .tc := ⟨.hbm, 78, rfl⟩
abbrev main_c_15 : Ref sig .tc := ⟨.hbm, 79, rfl⟩
abbrev main_v55 : Ref sig .tc := ⟨.hbm, 80, rfl⟩
abbrev main_v56 : Ref sig .tc := ⟨.hbm, 81, rfl⟩
abbrev main_c_16 : Ref sig .tc := ⟨.hbm, 82, rfl⟩
abbrev main_c_17 : Ref sig .tc := ⟨.hbm, 83, rfl⟩
abbrev main_call5_v0 : Ref sig .tc := ⟨.hbm, 84, rfl⟩
abbrev main_call5_v1 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_v57 : Ref sig .tc := ⟨.hbm, 89, rfl⟩
abbrev main_v58 : Ref sig .tc := ⟨.hbm, 90, rfl⟩
abbrev main_c_18 : Ref sig .tc := ⟨.hbm, 91, rfl⟩
abbrev main_v59 : Ref sig .tc := ⟨.hbm, 92, rfl⟩
abbrev main_v60 : Ref sig .tc := ⟨.hbm, 93, rfl⟩
abbrev main_c_19 : Ref sig .tc := ⟨.hbm, 94, rfl⟩
abbrev main_c_20 : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_call6_v3 : Ref sig .tc := ⟨.hbm, 99, rfl⟩
abbrev main_call6_v4 : Ref sig .tc := ⟨.hbm, 100, rfl⟩
abbrev main_v61 : Ref sig .tc := ⟨.hbm, 101, rfl⟩
abbrev main_v62 : Ref sig .tc := ⟨.hbm, 102, rfl⟩
abbrev main_c_21 : Ref sig .tc := ⟨.hbm, 103, rfl⟩
abbrev main_v63 : Ref sig .tc := ⟨.hbm, 104, rfl⟩
abbrev main_v64 : Ref sig .tc := ⟨.hbm, 105, rfl⟩
abbrev main_c_22 : Ref sig .tc := ⟨.hbm, 106, rfl⟩
abbrev main_c_23 : Ref sig .tc := ⟨.hbm, 107, rfl⟩
abbrev main_call7_v0 : Ref sig .tc := ⟨.hbm, 108, rfl⟩
abbrev main_call7_v1 : Ref sig .tc := ⟨.hbm, 109, rfl⟩
abbrev main_call7_v2 : Ref sig .tc := ⟨.hbm, 110, rfl⟩
abbrev main_call7_v3 : Ref sig .tc := ⟨.hbm, 111, rfl⟩
abbrev main_call7_v4 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_24 : Ref sig .tc := ⟨.hbm, 138, rfl⟩
abbrev main_call8_v0 : Ref sig .tc := ⟨.hbm, 139, rfl⟩
abbrev main_call8_v1 : Ref sig .tc := ⟨.hbm, 140, rfl⟩
abbrev main_call8_v2 : Ref sig .tc := ⟨.hbm, 141, rfl⟩
abbrev main_v90 : Ref sig .tc := ⟨.hbm, 142, rfl⟩
abbrev main_cst_25 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩

abbrev nD : Nat := 1
abbrev τ : Topo := Topo.v7x

variable {F : FTy → Type} [FloatOps F]
-- ==== Proof.Cell.lean ====
/- One box on its own: its scale cell, the four digits of that cell, and what the digits decide. Everything
   here is about single extended reals and single 32-bit words; no program is mentioned. -/
module

public import Idealize.ShloMosaic.Lib.Pointwise

@[expose] public section

noncomputable section

namespace Cert.Hnms

open Idealize.ShloMosaic

/-! ## The cell of a box along one axis -/

/-- The size class of an extent from `a` to `b`: the rounded logarithm, to base 1.5, of a sixteenth of its length
    (a length below one millionth counts as one millionth). -/
def sizeClass (a b : EReal) : EReal :=
  Ideal.liftRound Ideal.roundHalfEven (Ideal.div (Ideal.log (Ideal.div
    (max (b - a) (Ideal.ofBits .f32 0x358637BD#32)) (Ideal.ofBits .f32 0x41800000#32))) (Ideal.ofBits .f32 0x3ECF991F#32))

/-- The side of a cell of the size class of `a` to `b`: eight times 1.5 to the power of the class. -/
def cellSide (a b : EReal) : EReal :=
  Ideal.ofBits .f32 0x41000000#32 * Ideal.pow (Ideal.ofBits .f32 0x3FC00000#32) (sizeClass a b)

/-- Which cell of that side the middle of `a` to `b` lies in. -/
def place (a b : EReal) : EReal :=
  Ideal.liftRound Ideal.roundHalfEven (Ideal.div
    ((a + b) * Ideal.ofBits .f32 0x3F000000#32 - Ideal.ofBits .f32 0x3F000000#32 * cellSide a b) (cellSide a b))

/-! ## Digits -/

/-- The digit of a rounded number, clipped after the conversion to a 32-bit word. -/
def digit (v : EReal) : BitVec 32 :=
  IntOp.minsi 32767#32 (IntOp.maxsi 0#32 (Ideal.fptosi 32 v + 16384#32))

/-- The digit of a rounded number, clipped before the conversion. -/
def digitExact (v : EReal) : BitVec 32 :=
  Ideal.fptosi 32 (min (Ideal.ofBits .f32 0x467FFC00#32) (max (Ideal.ofBits .f32 0xC6800000#32) v)) + 16384#32

/-- Two digits packed in one word. -/
def pack (a b : BitVec 32) : BitVec 32 := a * 32768#32 + b

/-- A digit is at most 32767. -/
theorem digit_le (v : EReal) : (digit v).toNat ≤ 32767 := by
  unfold digit
  generalize Ideal.fptosi 32 v + 16384#32 = w
  have hw := w.isLt
  unfold IntOp.minsi IntOp.maxsi
  simp only [BitVec.slt, decide_eq_true_eq]
  have h := BitVec.toInt_eq_toNat_cond w
  have h1 : (32767#32 : BitVec 32).toInt = 32767 := by decide
  have h0 : (0#32 : BitVec 32).toInt = 0 := by decide
  have n1 : (32767#32 : BitVec 32).toNat = 32767 := by decide
  have n0 : (0#32 : BitVec 32).toNat = 0 := by decide
  split_ifs at h ⊢ <;> omega

/-- Packed digits agree exactly when the digits agree. -/
theorem pack_inj {a b a' b' : BitVec 32} (ha : a.toNat ≤ 32767) (hb : b.toNat ≤ 32767) (ha' : a'.toNat ≤ 32767)
    (hb' : b'.toNat ≤ 32767) : pack a b = pack a' b' ↔ a = a' ∧ b = b' := by
  constructor
  · intro h
    have h := congrArg BitVec.toNat h
    simp only [pack, BitVec.toNat_add, BitVec.toNat_mul, BitVec.toNat_ofNat] at h
    constructor <;> apply BitVec.eq_of_toNat_eq <;> omega
  · rintro ⟨rfl, rfl⟩; rfl

/-! ## Clipping before or after the conversion -/

/-- The lower clip as a real number. -/
theorem lo_bound : Ideal.ofBits .f32 0xC6800000#32 = (((-16384 : ℤ) : ℝ) : EReal) := by
  simp [Ideal.ofBits, Ideal.ieee, -EReal.coe_mul, -EReal.coe_neg]; norm_num
/-- The upper clip as a real number. -/
theorem hi_bound : Ideal.ofBits .f32 0x467FFC00#32 = (((16383 : ℤ) : ℝ) : EReal) := by
  simp [Ideal.ofBits, Ideal.ieee, -EReal.coe_mul, -EReal.coe_neg]; norm_num
/-- The bound of the precondition as a real number. -/
theorem word_bound : Ideal.ofBits .f32 0x4EFFFF80#32 = (((2147467264 : ℤ) : ℝ) : EReal) := by
  simp [Ideal.ofBits, Ideal.ieee, -EReal.coe_mul, -EReal.coe_neg]; norm_num

/-- Rounding toward zero. -/
def towardZero (r : ℝ) : ℤ := if 0 ≤ r then ⌊r⌋ else ⌈r⌉

/-- Rounding toward zero keeps the order. -/
theorem towardZero_mono {r s : ℝ} (h : r ≤ s) : towardZero r ≤ towardZero s := by
  unfold towardZero
  split_ifs with h1 h2 h2
  · exact Int.floor_mono h
  · exact absurd (h1.trans h) h2
  · exact (Int.ceil_le.2 (by push_cast; linarith)).trans (Int.floor_nonneg.2 h2)
  · exact Int.ceil_mono h

/-- Rounding toward zero fixes the integers. -/
theorem towardZero_int (n : ℤ) : towardZero n = n := by
  unfold towardZero; split_ifs <;> simp

/-- Clipping at two integers and rounding toward zero may be done in either order. -/
theorem towardZero_clip (lo hi : ℤ) (r : ℝ) :
    towardZero (min (hi : ℝ) (max (lo : ℝ) r)) = min hi (max lo (towardZero r)) := by
  have hm : Monotone towardZero := fun _ _ h => towardZero_mono h
  rw [hm.map_min, hm.map_max, towardZero_int, towardZero_int]

/-- A conversion that cannot saturate above, then the clip to a digit, as one integer. -/
theorem digit_ofInt (t : ℤ) (h0 : -2147483648 ≤ t) (h1 : t ≤ 2147467263) :
    IntOp.minsi 32767#32 (IntOp.maxsi 0#32 (BitVec.ofInt 32 t + 16384#32))
      = BitVec.ofInt 32 (min 16383 (max (-16384) t)) + 16384#32 := by
  have e : BitVec.ofInt 32 t + 16384#32 = BitVec.ofInt 32 (t + 16384) := by
    rw [BitVec.ofInt_add]; rfl
  have e' : BitVec.ofInt 32 (min 16383 (max (-16384) t)) + 16384#32 = BitVec.ofInt 32 (min 16383 (max (-16384) t) + 16384) := by
    rw [BitVec.ofInt_add]; rfl
  rw [e, e']
  have hi : (BitVec.ofInt 32 (t + 16384)).toInt = t + 16384 := by
    rw [BitVec.toInt_ofInt, Int.bmod_def]; omega
  have hj : (BitVec.ofInt 32 (min 16383 (max (-16384) t) + 16384)).toInt = min 16383 (max (-16384) t) + 16384 := by
    rw [BitVec.toInt_ofInt, Int.bmod_def]; omega
  have i1 : (32767#32 : BitVec 32).toInt = 32767 := by decide
  have i0 : (0#32 : BitVec 32).toInt = 0 := by decide
  unfold IntOp.minsi IntOp.maxsi
  simp only [BitVec.slt, decide_eq_true_eq]
  apply BitVec.eq_of_toInt_eq
  rw [hj]
  split_ifs <;> omega

/-- Below the bound the two digits are one. -/
theorem digitExact_eq (v : EReal) (hv : v < Ideal.ofBits .f32 0x4EFFFF80#32) : digitExact v = digit v := by
  rw [word_bound] at hv
  unfold digitExact digit Ideal.fptosi
  rw [lo_bound, hi_bound]
  induction v using EReal.rec with
  | bot =>
    rw [max_eq_left bot_le, min_eq_right (by exact_mod_cast (by norm_num : ((-16384 : ℤ) : ℝ) ≤ ((16383 : ℤ) : ℝ)))]
    rw [Ideal.toIntClamped_coe, Ideal.toIntClamped_bot]
    have h : (if 0 ≤ ((-16384 : ℤ) : ℝ) then ⌊((-16384 : ℤ) : ℝ)⌋ else ⌈((-16384 : ℤ) : ℝ)⌉) = -16384 := towardZero_int _
    rw [h]
    decide
  | top => exact absurd hv (by simp)
  | coe r =>
    have hr : r < ((2147467264 : ℤ) : ℝ) := by exact_mod_cast hv
    have e : min (((16383 : ℤ) : ℝ) : EReal) (max (((-16384 : ℤ) : ℝ) : EReal) (r : EReal))
        = ((min ((16383 : ℤ) : ℝ) (max ((-16384 : ℤ) : ℝ) r) : ℝ) : EReal) := by
      rw [EReal.coe_strictMono.monotone.map_min, EReal.coe_strictMono.monotone.map_max]
    rw [e, Ideal.toIntClamped_coe, Ideal.toIntClamped_coe]
    have c1 : (if 0 ≤ (min ((16383 : ℤ) : ℝ) (max ((-16384 : ℤ) : ℝ) r)) then ⌊min ((16383 : ℤ) : ℝ) (max ((-16384 : ℤ) : ℝ) r)⌋
        else ⌈min ((16383 : ℤ) : ℝ) (max ((-16384 : ℤ) : ℝ) r)⌉) = min 16383 (max (-16384) (towardZero r)) := towardZero_clip _ _ r
    have c2 : (if 0 ≤ r then ⌊r⌋ else ⌈r⌉) = towardZero r := rfl
    have c3 : towardZero r ≤ 2147467263 := by
      unfold towardZero
      split_ifs with h
      · exact Int.le_of_lt_add_one (Int.floor_lt.2 (by push_cast at hr ⊢; linarith))
      · exact Int.ceil_le.2 (by push_cast; linarith)
    rw [c1, c2]
    generalize towardZero r = t at c3
    rw [digit_ofInt _ (by norm_num) (by norm_num; omega)]
    congr 2
    norm_num
    omega

end Cert.Hnms

end
-- ==== Proof.Keys.lean ====
/- Two boxes side by side: their packed keys, when one outscores the other in the same cell, and the greatest of a
   family of zeros and ones. -/
module

public import proofs.«01_k».proof.Proof.Cell

@[expose] public section

noncomputable section

namespace Cert.Hnms

open Idealize.ShloMosaic

/-- The packed size digits of a box `x1, y1, x2, y2`. -/
def sizeKey (b : Fin 4 → EReal) : BitVec 32 := pack (digit (sizeClass (b 0) (b 2))) (digit (sizeClass (b 1) (b 3)))

/-- The packed place digits of a box. -/
def placeKey (b : Fin 4 → EReal) : BitVec 32 := pack (digit (place (b 0) (b 2))) (digit (place (b 1) (b 3)))

/-- The second box, scored `s'`, beats the first, scored `s`: both packed keys agree and its score is greater. -/
def Beats (b : Fin 4 → EReal) (s : EReal) (b' : Fin 4 → EReal) (s' : EReal) : Prop :=
  sizeKey b = sizeKey b' ∧ placeKey b = placeKey b' ∧ s < s'

/-- Two boxes lie in one cell, digit by digit, for a given way `d` to make digits. -/
def SameCell (d : EReal → BitVec 32) (b b' : Fin 4 → EReal) : Prop :=
  ((d (sizeClass (b 0) (b 2)) = d (sizeClass (b' 0) (b' 2)) ∧ d (sizeClass (b 1) (b 3)) = d (sizeClass (b' 1) (b' 3)))
    ∧ d (place (b 0) (b 2)) = d (place (b' 0) (b' 2))) ∧ d (place (b 1) (b 3)) = d (place (b' 1) (b' 3))

/-- The packed keys agree exactly when the boxes lie in one cell. -/
theorem keys_eq_iff (b b' : Fin 4 → EReal) : (sizeKey b = sizeKey b' ∧ placeKey b = placeKey b') ↔ SameCell digit b b' := by
  unfold sizeKey placeKey SameCell
  rw [pack_inj (digit_le _) (digit_le _) (digit_le _) (digit_le _), pack_inj (digit_le _) (digit_le _) (digit_le _) (digit_le _)]
  exact ⟨fun h => ⟨⟨h.1, h.2.1⟩, h.2.2⟩, fun h => ⟨h.1.1, h.1.2, h.2⟩⟩

/-- All four rounded numbers of a box stay below the bound under which no conversion saturates above. -/
def Fits (b : Fin 4 → EReal) : Prop :=
  sizeClass (b 0) (b 2) < Ideal.ofBits .f32 0x4EFFFF80#32 ∧ sizeClass (b 1) (b 3) < Ideal.ofBits .f32 0x4EFFFF80#32
    ∧ place (b 0) (b 2) < Ideal.ofBits .f32 0x4EFFFF80#32 ∧ place (b 1) (b 3) < Ideal.ofBits .f32 0x4EFFFF80#32

/-- For boxes that fit, clipping before and after the conversion give the same cells. -/
theorem sameCell_exact_iff {b b' : Fin 4 → EReal} (h : Fits b) (h' : Fits b') :
    SameCell digitExact b b' ↔ SameCell digit b b' := by
  obtain ⟨h1, h2, h3, h4⟩ := h
  obtain ⟨h1', h2', h3', h4'⟩ := h'
  unfold SameCell
  rw [digitExact_eq _ h1, digitExact_eq _ h2, digitExact_eq _ h3, digitExact_eq _ h4,
    digitExact_eq _ h1', digitExact_eq _ h2', digitExact_eq _ h3', digitExact_eq _ h4']

open Classical in
/-- One where the statement holds, zero elsewhere. -/
def ind (p : Prop) : EReal := if p then 1 else 0

/-- The indicator of what fails is zero. -/
theorem ind_of_not {p : Prop} (h : ¬p) : ind p = 0 := by unfold ind; exact if_neg h

/-- The indicator of what holds is one. -/
theorem ind_of {p : Prop} (h : p) : ind p = 1 := by unfold ind; exact if_pos h

/-- Equivalent statements have one indicator. -/
theorem ind_congr {p q : Prop} (h : p ↔ q) : ind p = ind q := by rw [propext h]

/-- An indicator is at most a number exactly when zero is, and one is if the statement holds. -/
theorem ind_le_iff (p : Prop) (z : EReal) : ind p ≤ z ↔ 0 ≤ z ∧ (p → 1 ≤ z) := by
  unfold ind
  split_ifs with h
  · exact ⟨fun h1 => ⟨zero_le_one.trans h1, fun _ => h1⟩, fun h1 => h1.2 h⟩
  · exact ⟨fun h0 => ⟨h0, fun hp => absurd hp h⟩, fun h0 => h0.1⟩

/-- The greater of two indicators is the indicator of "either". -/
theorem max_ind (p q : Prop) : max (ind p) (ind q) = ind (p ∨ q) := by
  refine eq_of_forall_ge_iff fun z => ?_
  rw [max_le_iff, ind_le_iff, ind_le_iff, ind_le_iff]
  tauto

/-- The greatest of a nonempty family of indicators, taken from below, is the indicator of "some". -/
theorem fold_ind {n : ℕ} [NeZero n] (p : Fin n → Prop) :
    (Finset.univ : Finset (Fin n)).fold max (⊥ : EReal) (fun k => ind (p k)) = ind (∃ k, p k) := by
  refine eq_of_forall_ge_iff fun z => ?_
  rw [Finset.fold_max_le, ind_le_iff]
  simp only [ind_le_iff, bot_le, true_and, Finset.mem_univ, forall_const]
  constructor
  · intro h; exact ⟨(h 0).1, fun ⟨k, hk⟩ => (h k).2 hk⟩
  · intro h k; exact ⟨h.1, fun hk => h.2 ⟨k, hk⟩⟩

/-- The score that pads the columns of scores. -/
def padScore : EReal := Ideal.ofBits .f32 0xBF800000#32

/-- One minus an indicator is the indicator of the opposite. -/
theorem one_sub_ind (p : Prop) : 1 - ind p = ind ¬p := by
  by_cases h : p
  · rw [ind_of h, ind_of_not (not_not.2 h)]; exact EReal.sub_self (by decide) (by decide)
  · rw [ind_of_not h, ind_of h, sub_zero]

/-- Entry `k` of a row of the result: a coordinate of the box for `k` below four, then the score, times `w`. -/
def keptRow (b : Fin 4 → EReal) (s w : EReal) (k : Fin 5) : EReal :=
  if h : k.val < 4 then b ⟨k.val, h⟩ * w else s * w

/-- Box `i` of many survives: no box of its cell is scored above it. -/
def Survives (d : EReal → BitVec 32) (b : Fin 20000 → Fin 4 → EReal) (s : Fin 20000 → EReal) (i : Fin 20000) : Prop :=
  ∀ j, SameCell d (b i) (b j) → s j ≤ s i

end Cert.Hnms

end
-- ==== Proof.Block.lean ====
/- What one grid point does to its block of the suppression column. -/
module

public import proofs.«01_k».proof.Proof.Gen.KernelIdeal.Skeleton
public import proofs.«01_k».proof.Proof.Keys
public import Idealize.ShloMosaic.PureOps.Ideal.Laws

@[expose] public section

set_option maxRecDepth 16384

noncomputable section

namespace Cert.Hnms

open Idealize.ShloMosaic Cert.KernelIdeal Cert.KernelIdeal.Gen

/-- The minus infinity that a maximum starts from lies below every extended real. -/
theorem neg_inf : Ideal.ofBits .f32 0xFF800000#32 = ⊥ := by simp [Ideal.ofBits, Ideal.ieee]

/-- The first packed key the body makes of row `r` is the size key of the box in that row. -/
theorem rowSize (x : Vec Ideal S2048x4 .f32) (r : Fin 2048) :
    k0_pay14 (k0_pay10 x) (k0_pay11 x) (ix2 r 0) = sizeKey fun a => x (ix2 r a) := by
  pointwise [k0_pay14, k0_pay10, k0_pay11, k0_pay6, k0_pay4, k0_pay7, k0_pay5, k0_pay3]
  rfl

/-- The first packed key the body makes of column `q` is the size key of the box in that column. -/
theorem colSize (x : Vec Ideal S4x4096 .f32) (q : Fin 4096) :
    k0_pay27 (k0_pay22 x) (k0_pay23 x) (ix2 0 q) = sizeKey fun a => x (ix2 a q) := by
  pointwise [k0_pay27, k0_pay22, k0_pay23, k0_pay17, k0_pay18, k0_pay19, k0_pay20, k0_pay16]
  rfl

/-- The second packed key of row `r` is the place key of its box. -/
theorem rowPlace (x : Vec Ideal S2048x4 .f32) (r : Fin 2048) :
    k0_pay15 (k0_pay8 x) (k0_pay9 x) (k0_pay12 x) (k0_pay13 x) (ix2 r 0) = placeKey fun a => x (ix2 r a) := by
  pointwise [k0_pay15, k0_pay8, k0_pay9, k0_pay12, k0_pay13, k0_pay10, k0_pay11, k0_pay6, k0_pay4, k0_pay7, k0_pay5, k0_pay3]
  rfl

/-- The second packed key of column `q` is the place key of its box. -/
theorem colPlace (x : Vec Ideal S4x4096 .f32) (q : Fin 4096) :
    k0_pay28 (k0_pay21 x) (k0_pay24 x) (k0_pay25 x) (k0_pay26 (F := Ideal)) (ix2 0 q) = placeKey fun a => x (ix2 a q) := by
  pointwise [k0_pay28, k0_pay21, k0_pay24, k0_pay25, k0_pay26, k0_pay22, k0_pay23, k0_pay17, k0_pay18, k0_pay19, k0_pay20, k0_pay16]
  rfl

/-- The conjunction of three tests, widened and converted, is an indicator. -/
theorem tests_ind (a b c d : BitVec 32) (p : Prop) [Decidable p] :
    (FloatOps.sitofp (F := Ideal) .f32 (BitVec.setWidth 32 (IntOp.andi (IntOp.andi (IntOp.cmpi .eq a b) (IntOp.cmpi .eq c d))
      (BitVec.ofBool (decide p)))) : EReal) = ind (a = b ∧ c = d ∧ p) := by
  show ((((BitVec.setWidth 32 (IntOp.andi (IntOp.andi (IntOp.cmpi .eq a b) (IntOp.cmpi .eq c d))
      (BitVec.ofBool (decide p)))).toInt : ℝ)) : EReal) = _
  have e (x y : BitVec 32) : (x == y) = decide (x = y) := by by_cases h : x = y <;> simp [h]
  unfold ind IntOp.andi IntOp.cmpi
  simp only [e]
  by_cases h1 : a = b <;> by_cases h2 : c = d <;> by_cases h3 : p <;> simp [h1, h2, h3]

/-- The new column entry of row `r`: the old one, raised to one if some column of the block agrees with the row in
    both keys and has the greater score. -/
theorem pay1_apply (v67 v84 : IVec S2048x1 32) (v149 v166 : IVec S1x4096 32) (s : FVec Ideal S2048x1 .f32)
    (s' : FVec Ideal S1x4096 .f32) (acc : Vec Ideal S2048x1 .f32) (r : Fin 2048) :
    k0_pay1 v67 v84 v149 v166 s s' acc (ix2 r 0) = max (acc (ix2 r 0))
      (ind (∃ q : Fin 4096, v67 (ix2 r 0) = v149 (ix2 0 q) ∧ v84 (ix2 r 0) = v166 (ix2 0 q) ∧ s (ix2 r 0) < s' (ix2 0 q))) := by
  pointwise [k0_pay1]
  rw [neg_inf]
  exact congrArg _ ((Finset.fold_congr fun q _ => tests_ind _ _ _ _ _).trans (fold_ind _))

/-- One grid point's update of its column block, from the blocks of boxes and scores it reads. -/
def blockStep (x0 : Vec Ideal S2048x4 .f32) (x1 : Vec Ideal S4x4096 .f32) (x2 : Vec Ideal S2048x1 .f32)
    (x3 : Vec Ideal S1x4096 .f32) (acc : Vec Ideal S2048x1 .f32) : Vec Ideal S2048x1 .f32 :=
  k0_pay1 (k0_pay14 (k0_pay10 x0) (k0_pay11 x0)) (k0_pay15 (k0_pay8 x0) (k0_pay9 x0) (k0_pay12 x0) (k0_pay13 x0))
    (k0_pay27 (k0_pay22 x1) (k0_pay23 x1)) (k0_pay28 (k0_pay21 x1) (k0_pay24 x1) (k0_pay25 x1) (k0_pay26 (F := Ideal)))
    (k0_pay29 x2) (k0_pay30 x3) acc

/-- The update at row `r`: the old entry, raised to one if some box of the column block beats the row's box. -/
theorem blockStep_apply (x0 : Vec Ideal S2048x4 .f32) (x1 : Vec Ideal S4x4096 .f32) (x2 : Vec Ideal S2048x1 .f32)
    (x3 : Vec Ideal S1x4096 .f32) (acc : Vec Ideal S2048x1 .f32) (r : Fin 2048) :
    blockStep x0 x1 x2 x3 acc (ix2 r 0) = max (acc (ix2 r 0))
      (ind (∃ q : Fin 4096, Beats (fun a => x0 (ix2 r a)) (x2 (ix2 r 0)) (fun a => x1 (ix2 a q)) (x3 (ix2 0 q)))) := by
  unfold blockStep Beats
  rw [pay1_apply]
  simp only [rowSize, colSize, rowPlace, colPlace, k0_pay29, k0_pay30, shapeCast_self]

/-- The column block starts at zero. -/
theorem pay2_apply (r : Fin 2048) : k0_pay2 (F := Ideal) (ix2 r 0) = (0 : EReal) := by
  pointwise [k0_pay2]

end Cert.Hnms

end
-- ==== Proof.KernelArray.lean ====
/- The suppression column after the kernel's grid has run, entry by entry. -/
module

public import proofs.«01_k».proof.Proof.Gen.KernelIdeal.Frame
public import proofs.«01_k».proof.Proof.Block
public import Idealize.ShloMosaic.Lib.Pipeline.Value

@[expose] public section

set_option maxRecDepth 16384

noncomputable section

namespace Cert.Hnms

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## What each case of the body leaves in the column block -/

theorem zeros2 : (![0, 0] : Fin 2 → Nat) = fun _ => 0 := funext fun a => by fin_cases a <;> rfl

/-- At a first column tile the block ends as the update of zero. -/
theorem first_tile (c : Dev nD) (i : grid0.Coords) (arg2 : Memref sig .tc .vmem S2048x4 .f32) (harg2 : arg2.IsWhole)
    (arg3 : Memref sig .tc .vmem S4x4096 .f32) (harg3 : arg3.IsWhole) (arg4 : Memref sig .tc .vmem S2048x1 .f32) (harg4 : arg4.IsWhole)
    (arg5 : Memref sig .tc .vmem S1x4096 .f32) (harg5 : arg5.IsWhole) (arg6 : Memref sig .tc .vmem S2048x1 .f32) (harg6 : arg6.IsWhole)
    (hc0 : cond0_0 i) (x0 : Vec Ideal S2048x4 .f32) (x1 : Vec Ideal S4x4096 .f32) (x2 : Vec Ideal S2048x1 .f32) (x3 : Vec Ideal S1x4096 .f32) :
    out0_A_4 c i arg2 harg2 arg3 harg3 arg4 harg4 arg5 harg5 arg6 harg6 hc0 x0 x1 x2 x3
      = blockStep x0 x1 x2 x3 (k0_pay2 (F := Ideal)) := by
  unfold out0_A_4 blockStep
  rw [View.read_writes_eq_canon _ _ _ (cover0_A_4 c i arg2 harg2 arg3 harg3 arg4 harg4 arg5 harg5 arg6 harg6 hc0 x0 x1 x2 x3)]
  unfold kernelRun0_A
  dsimp only
  try sl_unfold_words
  rw [View.canon_cons_unit_zero (S := S2048x1) zeros2, View.readCov_unit_zero (S := S2048x1) _ zeros2]
  simp only [View.readAt_eq_ld, harg2.read_unread, harg3.read_unread, harg4.read_unread, harg5.read_unread, harg6.read_unread,
    View.ld_unit_zero (S := S1x4096) zeros2, View.ld_unit_zero (S := S2048x1) zeros2, View.ld_unit_zero (S := S2048x4) zeros2,
    View.ld_unit_zero (S := S4x4096) zeros2, shapeCast_self]

/-- At a later column tile the block ends as the update of what the tile before left. -/
theorem later_tile (c : Dev nD) (i : grid0.Coords) (arg2 : Memref sig .tc .vmem S2048x4 .f32) (harg2 : arg2.IsWhole)
    (arg3 : Memref sig .tc .vmem S4x4096 .f32) (harg3 : arg3.IsWhole) (arg4 : Memref sig .tc .vmem S2048x1 .f32) (harg4 : arg4.IsWhole)
    (arg5 : Memref sig .tc .vmem S1x4096 .f32) (harg5 : arg5.IsWhole) (arg6 : Memref sig .tc .vmem S2048x1 .f32) (harg6 : arg6.IsWhole)
    (hc0 : ¬cond0_0 i) (x0 : Vec Ideal S2048x4 .f32) (x1 : Vec Ideal S4x4096 .f32) (x2 : Vec Ideal S2048x1 .f32) (x3 : Vec Ideal S1x4096 .f32)
    (acc : Vec Ideal S2048x1 .f32) :
    out0_B_4 c i arg2 harg2 arg3 harg3 arg4 harg4 arg5 harg5 arg6 harg6 hc0 x0 x1 x2 x3 acc = blockStep x0 x1 x2 x3 acc := by
  unfold out0_B_4 blockStep
  rw [View.read_writes_eq_canon _ _ _ (cover0_B_4 c i arg2 harg2 arg3 harg3 arg4 harg4 arg5 harg5 arg6 harg6 hc0 x0 x1 x2 x3 acc)]
  unfold kernelRun0_B
  dsimp only
  try sl_unfold_words
  rw [View.canon_unit_zero zeros2]
  simp only [View.readAt_eq_ld, harg2.read_unread, harg3.read_unread, harg4.read_unread, harg5.read_unread, harg6.read_unread,
    View.ld_unit_zero (S := S1x4096) zeros2, View.ld_unit_zero (S := S2048x1) zeros2, View.ld_unit_zero (S := S2048x4) zeros2,
    View.ld_unit_zero (S := S4x4096) zeros2, shapeCast_self]

/-! ## Which rows and columns a grid point reads -/

/-- Grid point `t` is row block `t / 5` and column block `t % 5` of every window. -/
theorem block_index : ∀ t : Fin cfg0.N,
    (win0_0.index t (0 : Fin 2) = t.val / 5 ∧ win0_0.index t (1 : Fin 2) = 0)
    ∧ (win0_1.index t (0 : Fin 2) = 0 ∧ win0_1.index t (1 : Fin 2) = t.val % 5)
    ∧ (win0_2.index t (0 : Fin 2) = t.val / 5 ∧ win0_2.index t (1 : Fin 2) = 0)
    ∧ (win0_3.index t (0 : Fin 2) = 0 ∧ win0_3.index t (1 : Fin 2) = t.val % 5)
    ∧ (win0_4.index t (0 : Fin 2) = t.val / 5 ∧ win0_4.index t (1 : Fin 2) = 0) :=
  (by decide +kernel : ∀ t : Fin grid0.N, _)

theorem point_lt (t : Fin cfg0.N) : t.val < 50 := lt_of_lt_of_eq t.isLt (show cfg0.N = 50 from N_0)

/-- The padded row that row `r` of point `t`'s block is. -/
def rowOf (t : Fin cfg0.N) (r : Fin 2048) : Fin 20480 :=
  ⟨2048 * (t.val / 5) + r.val, by have := point_lt t; have := r.isLt; omega⟩

/-- The padded column that column `q` of point `t`'s block is. -/
def colOf (t : Fin cfg0.N) (q : Fin 4096) : Fin 20480 :=
  ⟨4096 * (t.val % 5) + q.val, by have := q.isLt; omega⟩

/-- Point `t`'s block of row boxes. -/
theorem rows_block (c : Dev nD) (t : Fin cfg0.N) (r : Fin 2048) (a : Fin 4) :
    iblk m c 0 t (ix2 r a) = V m c main_v0 (ix2 (rowOf t r) a) := by
  obtain ⟨⟨e0, e1⟩, -⟩ := block_index t
  show V m c main_v0 (((cfg0.win 0).blk t).view.emb (ix2 r a)) = _
  congr 1
  refine Shape.idx_ext₂ ?_ ?_
  · show win0_0.index t (0 : Fin 2) * 2048 + 1 * r.val = 2048 * (t.val / 5) + r.val
    omega
  · show win0_0.index t (1 : Fin 2) * 4 + 1 * a.val = a.val
    omega

/-- Point `t`'s block of column boxes. -/
theorem cols_block (c : Dev nD) (t : Fin cfg0.N) (a : Fin 4) (q : Fin 4096) :
    iblk m c 1 t (ix2 a q) = V m c main_v6 (ix2 a (colOf t q)) := by
  obtain ⟨-, ⟨e0, e1⟩, -⟩ := block_index t
  show V m c main_v6 (((cfg0.win 1).blk t).view.emb (ix2 a q)) = _
  congr 1
  refine Shape.idx_ext₂ ?_ ?_
  · show win0_1.index t (0 : Fin 2) * 4 + 1 * a.val = a.val
    omega
  · show win0_1.index t (1 : Fin 2) * 4096 + 1 * q.val = 4096 * (t.val % 5) + q.val
    omega

/-- Point `t`'s block of row scores. -/
theorem rowScores_block (c : Dev nD) (t : Fin cfg0.N) (r : Fin 2048) :
    iblk m c 2 t (ix2 r 0) = V m c main_v2 (ix2 (rowOf t r) 0) := by
  obtain ⟨-, -, ⟨e0, e1⟩, -⟩ := block_index t
  show V m c main_v2 (((cfg0.win 2).blk t).view.emb (ix2 r 0)) = _
  congr 1
  refine Shape.idx_ext₂ ?_ ?_
  · show win0_2.index t (0 : Fin 2) * 2048 + 1 * r.val = 2048 * (t.val / 5) + r.val
    omega
  · show win0_2.index t (1 : Fin 2) * 1 + 1 * 0 = 0
    omega

/-- Point `t`'s block of column scores. -/
theorem colScores_block (c : Dev nD) (t : Fin cfg0.N) (q : Fin 4096) :
    iblk m c 3 t (ix2 0 q) = V m c main_v5 (ix2 0 (colOf t q)) := by
  obtain ⟨-, -, -, ⟨e0, e1⟩, -⟩ := block_index t
  show V m c main_v5 (((cfg0.win 3).blk t).view.emb (ix2 0 q)) = _
  congr 1
  refine Shape.idx_ext₂ ?_ ?_
  · show win0_3.index t (0 : Fin 2) * 1 + 1 * 0 = 0
    omega
  · show win0_3.index t (1 : Fin 2) * 4096 + 1 * q.val = 4096 * (t.val % 5) + q.val
    omega

/-! ## The column, entry by entry -/

/-- Padded column `j` beats padded row `i`, in the arrays the kernel reads. -/
def PadBeats (c : Dev nD) (i j : Fin 20480) : Prop :=
  Beats (fun a => V m c main_v0 (ix2 i a)) (V m c main_v2 (ix2 i 0)) (fun a => V m c main_v6 (ix2 a j)) (V m c main_v5 (ix2 0 j))

/-- One grid point raises its row's entry to one if a column of its block beats the row. -/
theorem step_apply (c : Dev nD) (t : Fin cfg0.N) (acc : Vec Ideal S2048x1 .f32) (r : Fin 2048) :
    blockStep (iblk m c 0 t) (iblk m c 1 t) (iblk m c 2 t) (iblk m c 3 t) acc (ix2 r 0)
      = max (acc (ix2 r 0)) (ind (∃ q : Fin 4096, PadBeats m c (rowOf t r) (colOf t q))) := by
  rw [blockStep_apply]
  unfold PadBeats
  simp only [rows_block, cols_block, rowScores_block, colScores_block]

/-- Some column of the point's block, or one before it, is the same as some column up to the block's end. -/
theorem seen_iff (t : Fin cfg0.N) (p : Fin 20480 → Prop) :
    ((∃ j : Fin 20480, j.val < 4096 * (t.val % 5) ∧ p j) ∨ ∃ q : Fin 4096, p (colOf t q))
      ↔ ∃ j : Fin 20480, j.val < 4096 * (t.val % 5 + 1) ∧ p j := by
  constructor
  · rintro (⟨j, hj, h⟩ | ⟨q, h⟩)
    · exact ⟨j, by omega, h⟩
    · exact ⟨colOf t q, by have := q.isLt; show 4096 * (t.val % 5) + q.val < _; omega, h⟩
  · rintro ⟨j, hj, h⟩
    by_cases hlt : j.val < 4096 * (t.val % 5)
    · exact .inl ⟨j, hlt, h⟩
    · refine .inr ⟨⟨j.val - 4096 * (t.val % 5), by omega⟩, ?_⟩
      have e : colOf t ⟨j.val - 4096 * (t.val % 5), by omega⟩ = j := Fin.ext (by show 4096 * (t.val % 5) + (j.val - _) = _; omega)
      rwa [e]

/-- Before the first column tile no column has been seen. -/
theorem none_seen (t : Fin cfg0.N) (h0 : t.val % 5 = 0) (p : Fin 20480 → Prop) :
    ind (∃ j : Fin 20480, j.val < 4096 * (t.val % 5) ∧ p j) = 0 :=
  ind_of_not fun ⟨j, hj, _⟩ => by omega

/-- At a first column tile the entry of row `r` tells whether a column of the tile beats it. -/
theorem column_first (c : Dev nD) (t : Fin cfg0.N) (h0 : t.val % 5 = 0) (r : Fin 2048) :
    outsAt0 m c t.val t.isLt (ix2 r 0)
      = ind (∃ j : Fin 20480, j.val < 4096 * (t.val % 5 + 1) ∧ PadBeats m c (rowOf t r) j) := by
  rw [outsAt0_A m c t h0, first_tile, step_apply, pay2_apply, ← seen_iff t (fun j => PadBeats m c (rowOf t r) j), ← max_ind,
    none_seen t h0]

/-- After grid point `n` the block's entry of row `r` tells whether a column seen so far in this row block beats it. -/
theorem column_after (c : Dev nD) (n : ℕ) : ∀ (h : n < cfg0.N) (r : Fin 2048),
    outsAt0 m c n h (ix2 r 0)
      = ind (∃ j : Fin 20480, j.val < 4096 * (n % 5 + 1) ∧ PadBeats m c (rowOf ⟨n, h⟩ r) j) := by
  induction n with
  | zero => exact fun h r => column_first m c ⟨0, h⟩ (Nat.zero_mod _) r
  | succ n ih =>
    intro h r
    by_cases h0 : (n + 1) % 5 = 0
    · exact column_first m c ⟨n + 1, h⟩ h0 r
    · have hB := outsAt0_B m c ⟨n + 1, h⟩ h0
      have hrow : rowOf ⟨n, Nat.lt_of_succ_lt h⟩ r = rowOf ⟨n + 1, h⟩ r :=
        Fin.ext (by show 2048 * (n / 5) + r.val = 2048 * ((n + 1) / 5) + r.val; omega)
      have hacc : outsAt0 m c n (Nat.lt_of_succ_lt h) (ix2 r 0)
          = ind (∃ j : Fin 20480, j.val < 4096 * ((n + 1) % 5) ∧ PadBeats m c (rowOf ⟨n + 1, h⟩ r) j) := by
        rw [ih (Nat.lt_of_succ_lt h) r, hrow, show n % 5 + 1 = (n + 1) % 5 by omega]
      rw [show outsAt0 m c (n + 1) h = _ from hB, later_tile, step_apply,
        ← seen_iff ⟨n + 1, h⟩ (fun j => PadBeats m c (rowOf ⟨n + 1, h⟩ r) j), ← max_ind]
      exact congrArg (max · _) hacc

/-- The whole column: whether any padded column beats the row. -/
def column (c : Dev nD) : Buf (Elt Ideal) ((c : Thread nD τ).loc main_v7) := fun i =>
  ind (∃ j : Fin 20480, PadBeats m c (i 0) j)

/-- What a last column tile writes back is its block of the whole column. -/
theorem written_back (c : Dev nD) (t : Fin cfg0.N) (hf : (cfg0.win 4).flush t = true) :
    (dats m 0 c).flushed 4 t = ((cfg0.win 4).blk t).view.read (Elt Ideal) (column m c) := by
  show (cfg0.win 4).cut (grid0.coords t) ((dats m 0 c).after 4 t) = _
  rw [after0_4]
  have hm : t.val % 5 = 4 := (flush0_4 t).mp hf
  obtain ⟨-, -, -, -, ⟨e0, e1⟩⟩ := block_index t
  funext y
  have hy0 : (y 0).val < 2048 := (y 0).isLt
  have hy1 : (y 1).val < 1 := (y 1).isLt
  have hin : (cfg0.win 4).xinj (grid0.coords t) y = ix2 ⟨(y 0).val, hy0⟩ 0 := by
    refine Shape.idx_ext₂ rfl ?_
    show (y 1).val = 0
    omega
  have hout : ((cfg0.win 4).blk t).view.emb y 0 = rowOf t ⟨(y 0).val, hy0⟩ := by
    refine Fin.ext ?_
    show win0_4.index t (0 : Fin 2) * 2048 + 1 * (y 0).val = 2048 * (t.val / 5) + (y 0).val
    omega
  show outsAt0 m c t.val t.isLt ((cfg0.win 4).xinj (grid0.coords t) y) = column m c (((cfg0.win 4).blk t).view.emb y)
  rw [hin, column_after]
  unfold column
  rw [hout]
  refine ind_congr (exists_congr fun j => ?_)
  have := j.isLt
  exact ⟨fun h => h.2, fun h => ⟨by omega, h⟩⟩

/-- Every row block is written back at its last column tile. -/
theorem last_tile : ∀ q : Fin 10, ∃ t : Fin cfg0.N, (cfg0.win 4).flush t = true ∧ t.val / 5 = q.val :=
  (by decide +kernel : ∀ q : Fin 10, ∃ t : Fin grid0.N, win0_4.flush t = true ∧ t.val / 5 = q.val)

/-- The column array after the run is the whole column. -/
theorem column_final (c : Dev nD) : (dats m 0 c).arrAt 4 cfg0.N = column m c :=
  (dats m 0 c).arrAt_eq_of_cover 4 _ (fun t hf => written_back m c t hf) (fun i => by
    have h0 : (i 0).val < 20480 := (i 0).isLt
    have h1 : (i 1).val < 1 := (i 1).isLt
    obtain ⟨t, hft, ht⟩ := last_tile ⟨(i 0).val / 2048, by omega⟩
    obtain ⟨-, -, -, -, ⟨e0, e1⟩⟩ := block_index t
    have ht : t.val / 5 = (i 0).val / 2048 := ht
    refine ⟨t, hft, ?_⟩
    show i ∈ ((View.whole main_v7).slice (win0_4.rect t)).set
    rw [View.set_slice_whole, Rect.mem_set_unit]
    intro a
    match a with
    | ⟨0, _⟩ => show win0_4.index t (0 : Fin 2) * 2048 ≤ (i 0).val ∧ (i 0).val < win0_4.index t (0 : Fin 2) * 2048 + 2048; omega
    | ⟨1, _⟩ => show win0_4.index t (1 : Fin 2) * 1 ≤ (i 1).val ∧ (i 1).val < win0_4.index t (1 : Fin 2) * 1 + 1; omega)

end Cert.Hnms

end
-- ==== Proof.KernelRun.lean ====
/- The kernel's whole program: what it pads before the grid runs, and the result it makes of the column afterwards. -/
module

public import proofs.«01_k».proof.Proof.KernelArray
public import Idealize.ShloMosaic.Lib.StableHlo.Run

@[expose] public section

set_option maxRecDepth 16384

noncomputable section

namespace Cert.Hnms

open Cert.KernelIdeal Cert.KernelIdeal.Gen Idealize.ShloMosaic Idealize.ShloMosaic.TcCoe Idealize.SL.Sem

variable (m : (ℓ : Loc nD τ sig) → Buf (Elt Ideal) ℓ)

/-- A vector of length 20000 lengthened by a constant, read at a padded position. -/
def padded (f : Fin 20000 → EReal) (z : EReal) (i : Fin 20480) : EReal :=
  if h : i.val < 20000 then f ⟨i.val, h⟩ else z

/-- The boxes given to the program. -/
abbrev boxes (c : Dev nD) : FVec Ideal S20000x4 .f32 := m ((c.tc : Thread nD τ).loc main_arg0)
/-- The scores given to the program. -/
abbrev scores (c : Dev nD) : FVec Ideal S20000 .f32 := m ((c.tc : Thread nD τ).loc main_arg1)

/-- A converted zero word is zero. -/
theorem zero_word : (FloatOps.sitofp (F := Ideal) .f32 (0#32) : EReal) = 0 := by
  show ((((0#32 : BitVec 32).toInt : ℝ)) : EReal) = 0
  simp

/-- The row boxes, lengthened by zeros. -/
theorem V_v0 (c : Dev nD) (i : Fin 20480) (a : Fin 4) :
    V m c main_v0 (ix2 i a) = padded (fun k => boxes m c (ix2 k a)) 0 i := by
  have e : V m c main_v0 = (pad S20480x4 ![0, 0] ![480, 0] ![0, 0] (boxes m c) (sitofp .f32 (constantI S_ 32 0#32))
      pads_S20000x4_S20480x4_04800_000 h_S_ : FVec Ideal S20480x4 .f32) := by
    dsimp only [V, V0, hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e]
  pointwise [padded]
  rw [zero_word]

/-- The column boxes: the row boxes, lengthened by zeros and transposed. -/
theorem V_v6 (c : Dev nD) (j : Fin 20480) (a : Fin 4) :
    V m c main_v6 (ix2 a j) = padded (fun k => boxes m c (ix2 k a)) 0 j := by
  have e : V m c main_v6 = (transpose S4x20480 [1, 0] (pad S20480x4 ![0, 0] ![480, 0] ![0, 0] (boxes m c)
      (sitofp .f32 (constantI S_ 32 0#32)) pads_S20000x4_S20480x4_04800_000 h_S_) transposes_S20480x4_S4x20480_1_0 : FVec Ideal S4x20480 .f32) := by
    dsimp only [V, V0, hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e]
  pointwise [padded]
  rw [zero_word]

/-- The row scores, lengthened by zeros. -/
theorem V_v2 (c : Dev nD) (i : Fin 20480) :
    V m c main_v2 (ix2 i 0) = padded (fun k => scores m c (ix1 k)) 0 i := by
  have e : V m c main_v2 = (shapeCast S20480x1 (pad S20480 ![0] ![480] ![0] (scores m c) (sitofp .f32 (constantI S_ 32 0#32))
      pads_S20000_S20480_04800 h_S_) shapeCasts_S20480_S20480x1 : FVec Ideal S20480x1 .f32) := by
    dsimp only [V, V0, hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e]
  pointwise [padded]
  rw [zero_word]

/-- The column scores, lengthened by minus ones. -/
theorem V_v5 (c : Dev nD) (j : Fin 20480) :
    V m c main_v5 (ix2 0 j) = padded (fun k => scores m c (ix1 k)) padScore j := by
  have e : V m c main_v5 = (shapeCast S1x20480 (pad S20480 ![0] ![480] ![0] (scores m c) (constant S_ .f32 0xBF800000#32)
      pads_S20000_S20480_04800 h_S_) shapeCasts_S20480_S1x20480 : FVec Ideal S1x20480 .f32) := by
    dsimp only [V, V0, hostOps0, hostOps0_1, hostOps0_2, hostOps0_3, hostOps0_4, hostOps0_5, hostOps0_6, hostOps0_7, hostOps0_8,
      List.flatten_cons, List.flatten_nil, List.append_nil, List.cons_append, List.nil_append]
    after_results
    try rfl
  rw [e]
  pointwise [padded, padScore]

/-! ## The result -/

/-- The result array the program leaves. -/
def kernelResult (c : Dev nD) : Buf (Elt Ideal) ((c.tc : Thread nD τ).loc main_v17) :=
  Pipeline.afterTail₀ cfgs (dats m) 0 (V0 m) [hostOps1] c main_v17

/-- The result, entry by entry: each row of boxes and scores times one minus its entry of the column. -/
theorem kernelResult_apply (c : Dev nD) (i : Fin 20000) (k : Fin 5) :
    kernelResult m c (ix2 i k)
      = keptRow (fun a => boxes m c (ix2 i a)) (scores m c (ix1 i)) (1 - column m c (ix2 ⟨i.val, by have := i.isLt; omega⟩ 0)) k := by
  unfold kernelResult Pipeline.afterTail₀
  have h7 : Pipeline.withArrays spec0 c (V0 m c) (fun w => (dats m 0 c).arrAt w cfg0.N) (Proc.devRef .tc main_v7) = column m c :=
    (Pipeline.withArrays_arr spec0 winFacts0.arr_inj c (V0 m c) _ 4).trans (column_final m c)
  have ha0 : Pipeline.withArrays spec0 c (V0 m c) (fun w => (dats m 0 c).arrAt w cfg0.N) (Proc.devRef .tc main_arg0) = boxes m c :=
    (Pipeline.withArrays_of_ne _ c (V0 m c) _ main_arg0 (by exact (by decide : ∀ w, Pipeline.arrRef spec0 w ≠ main_arg0))).trans (V_main_arg0 m c)
  have ha1 : Pipeline.withArrays spec0 c (V0 m c) (fun w => (dats m 0 c).arrAt w cfg0.N) (Proc.devRef .tc main_arg1) = scores m c :=
    (Pipeline.withArrays_of_ne _ c (V0 m c) _ main_arg1 (by exact (by decide : ∀ w, Pipeline.arrRef spec0 w ≠ main_arg1))).trans (V_main_arg1 m c)
  generalize hW : Pipeline.withArrays spec0 c (V0 m c) (fun w => (dats m 0 c).arrAt w cfg0.N) = W at h7 ha0 ha1
  have e : StableHlo.after (List.flatten [hostOps1]) W (Proc.devRef .tc main_v17)
      = (concatenate S20000x5 1 [⟨S20000x4, mulf (boxes m c) (broadcastInDim S20000x4 ![0, 1] bcast_S20000x1_S20000x4_0_1
          (broadcastInDim S20000x1 ![0] bcast_S20000_S20000x1_0 (subf (broadcastInDim S20000 ![] bcast_S_S20000 (constant S_ .f32 0x3F800000#32))
            (shapeCast S20000 (extractStridedSlice S20000x1 ![0, 0] (column m c : FVec Ideal S20480x1 .f32) slices_S20480x1_S20000x1_0_0) shapeCasts_S20000x1_S20000))))⟩,
          ⟨S20000x1, broadcastInDim S20000x1 ![0] bcast_S20000_S20000x1_0 (mulf (scores m c) (subf (broadcastInDim S20000 ![] bcast_S_S20000 (constant S_ .f32 0x3F800000#32))
            (shapeCast S20000 (extractStridedSlice S20000x1 ![0, 0] (column m c : FVec Ideal S20480x1 .f32) slices_S20480x1_S20000x1_0_0) shapeCasts_S20000x1_S20000)))⟩]
          concatenates_S20000x4_S20000x1_S20000x5_d1 : FVec Ideal S20000x5 .f32) := by
    dsimp only [hostOps1, List.flatten_cons, List.flatten_nil, List.append_nil, List.cons_append, List.nil_append]
    after_results
    rw [← h7, ← ha0, ← ha1]
    try rfl
  rw [e]
  pointwise [keptRow]

/-- The program runs to its end from any memory, leaves that result, and leaves its arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v17) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨(h c).2 main_v17 (Pipeline.mem_restRefs_of main_v17 (by decide) (by decide)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Hnms

end
-- ==== Proof.RefVec.lean ====
/- The references' array expressions, named piece by piece and read at an index. The two references differ only in
   how a digit is made, so everything else is stated once, over any way `d` to make digits. -/
module

public import proofs.«01_k».proof.Proof.Keys
public import Idealize.ShloMosaic.Lib.StableHlo
public import Idealize.ShloMosaic.Lib.Routing.OpsOrder
public import Idealize.ShloMosaic.Lib.Tactic.CleanTypes

@[expose] public section

set_option maxRecDepth 16384

noncomputable section

namespace Cert.Hnms

open Idealize.ShloMosaic

/-- All boxes, one per row. -/
abbrev Boxes : Shape := ⟨2, ![20000, 4]⟩
/-- One number per box. -/
abbrev Nums : Shape := ⟨1, ![20000]⟩
/-- One number per box, as a column. -/
abbrev Tall : Shape := ⟨2, ![20000, 1]⟩
/-- One number per box, as a row. -/
abbrev Wide : Shape := ⟨2, ![1, 20000]⟩
/-- One number per pair of boxes. -/
abbrev Pairs : Shape := ⟨2, ![20000, 20000]⟩
/-- The result's shape. -/
abbrev Kept : Shape := ⟨2, ![20000, 5]⟩
/-- A single number. -/
abbrev Pt : Shape := ⟨0, ![]⟩

/-- The relations between those shapes that the array operations ask for. -/
structure ShapesFit : Prop where
  pt : 0 < Pt.numel
  all : Pt.BroadcastsInDim Nums (![] : Fin 0 → Fin Nums.rank)
  allPairs : Pt.BroadcastsInDim Pairs (![] : Fin 0 → Fin Pairs.rank)
  tall : Nums.BroadcastsInDim Tall (![0] : Fin 1 → Fin Tall.rank)
  wide : Nums.BroadcastsInDim Wide (![1] : Fin 1 → Fin Wide.rank)
  tallPairs : Tall.BroadcastsInDim Pairs (![0, 1] : Fin 2 → Fin Pairs.rank)
  widePairs : Wide.BroadcastsInDim Pairs (![0, 1] : Fin 2 → Fin Pairs.rank)
  tallBoxes : Tall.BroadcastsInDim Boxes (![0, 1] : Fin 2 → Fin Boxes.rank)
  cols : Pairs.ReducesTo [1] Nums
  slices : ∀ k : Fin 4, Boxes.Slices ![0, k.val] Tall
  flat : Tall.ShapeCasts Nums
  join : Shape.Concatenates [Boxes, Tall] Kept 1

variable (h : ShapesFit)

/-- One constant for every box. -/
def every (w : BitVec 32) : FVec Ideal Nums .f32 := broadcastInDim Nums ![] h.all (constant Pt .f32 w)

/-- Coordinate `k` of every box. -/
def coord (k : Fin 4) (x : FVec Ideal Boxes .f32) : FVec Ideal Nums .f32 :=
  shapeCast Nums (extractStridedSlice Tall ![0, k.val] x (h.slices k)) h.flat

/-- The size class of every extent from `a` to `b`. -/
def sizeVec (a b : FVec Ideal Nums .f32) : FVec Ideal Nums .f32 :=
  Host.roundeven (Host.divf (Host.log (Host.divf (maximumf (subf b a) (every h 0x358637BD#32)) (every h 0x41800000#32))) (every h 0x3ECF991F#32))

/-- The cell side of every extent from `a` to `b`. -/
def sideVec (a b : FVec Ideal Nums .f32) : FVec Ideal Nums .f32 :=
  mulf (every h 0x41000000#32) (Host.powf (every h 0x3FC00000#32) (sizeVec h a b))

/-- The place of the middle of every extent from `a` to `b`. -/
def placeVec (a b : FVec Ideal Nums .f32) : FVec Ideal Nums .f32 :=
  Host.roundeven (Host.divf (subf (mulf (addf a b) (every h 0x3F000000#32)) (mulf (every h 0x3F000000#32) (sideVec h a b))) (sideVec h a b))

/-- The digits of the reference that clips before the conversion. -/
def digitExactVec (v : FVec Ideal Nums .f32) : IVec Nums 32 :=
  addi (fptosi 32 (minimumf (broadcastInDim Nums ![] h.all (id (constant (F := Ideal) Pt .f32 0x467FFC00#32)))
    (maximumf (broadcastInDim Nums ![] h.all (id (constant (F := Ideal) Pt .f32 0xC6800000#32))) v)))
    (broadcastInDim Nums ![] h.all (constantI Pt 32 16384#32))

/-- The digits of the reference that clips after the conversion. -/
def digitVec (v : FVec Ideal Nums .f32) : IVec Nums 32 :=
  minsi (broadcastInDim Nums ![] h.all (id (constantI Pt 32 32767#32)))
    (maxsi (broadcastInDim Nums ![] h.all (id (constantI Pt 32 0#32)))
      (addi (fptosi 32 v) (broadcastInDim Nums ![] h.all (constantI Pt 32 16384#32))))

/-- For every pair of boxes, whether a digit agrees. -/
def agree (d : IVec Nums 32) : IVec Pairs 1 :=
  cmpi .eq (broadcastInDim Pairs ![0, 1] h.tallPairs (broadcastInDim Tall ![0] h.tall d))
    (broadcastInDim Pairs ![0, 1] h.widePairs (broadcastInDim Wide ![1] h.wide d))

/-- For every pair of boxes, whether all four digits agree. -/
def samePairs (d1 d2 d3 d4 : IVec Nums 32) : IVec Pairs 1 :=
  andi (andi (andi (agree h d1) (agree h d2)) (agree h d3)) (agree h d4)

/-- The greatest score in the cell of every box. -/
def bestVec (same : IVec Pairs 1) (s : FVec Ideal Nums .f32) : FVec Ideal Nums .f32 :=
  Host.reduce FloatOps.maximumf (select same (broadcastInDim Pairs ![0, 1] h.widePairs (broadcastInDim Wide ![1] h.wide s))
    (broadcastInDim Pairs ![] h.allPairs (id (constant Pt .f32 0xFF800000#32)))) (constant Pt .f32 0xFF800000#32) h.cols h.pt

/-- One for every box that no box of its cell outscores, else zero. -/
def keepVec (same : IVec Pairs 1) (s : FVec Ideal Nums .f32) : FVec Ideal Nums .f32 :=
  uitofp .f32 (cmpf .oge s (bestVec h same s))

/-- The boxes and the scores, times `w`, side by side. -/
def joined (x : FVec Ideal Boxes .f32) (s w : FVec Ideal Nums .f32) : FVec Ideal Kept .f32 :=
  concatenate Kept 1 [⟨Boxes, mulf x (broadcastInDim Boxes ![0, 1] h.tallBoxes (broadcastInDim Tall ![0] h.tall w))⟩,
    ⟨Tall, broadcastInDim Tall ![0] h.tall (mulf s w)⟩] h.join

/-- The result of a reference that makes its digits by `d`. -/
def refResult (d : FVec Ideal Nums .f32 → IVec Nums 32) (x : FVec Ideal Boxes .f32) (s : FVec Ideal Nums .f32) : FVec Ideal Kept .f32 :=
  joined h x s (keepVec h (samePairs h (d (sizeVec h (coord h 0 x) (coord h 2 x))) (d (sizeVec h (coord h 1 x) (coord h 3 x)))
    (d (placeVec h (coord h 0 x) (coord h 2 x))) (d (placeVec h (coord h 1 x) (coord h 3 x)))) s)

/-! ## Read at an index -/

/-- A coordinate of a box. -/
theorem coord_apply (k : Fin 4) (x : FVec Ideal Boxes .f32) (i : Fin 20000) :
    coord h k x (ix1 i) = x (ix2 i k) := by
  fin_cases k <;> pointwise [coord]

/-- A size class. -/
theorem sizeVec_apply (a b : FVec Ideal Nums .f32) (i : Fin 20000) : sizeVec h a b (ix1 i) = sizeClass (a (ix1 i)) (b (ix1 i)) := by
  pointwise [sizeVec, every, sizeClass]

/-- A cell side. -/
theorem sideVec_apply (a b : FVec Ideal Nums .f32) (i : Fin 20000) : sideVec h a b (ix1 i) = cellSide (a (ix1 i)) (b (ix1 i)) := by
  unfold cellSide
  rw [← sizeVec_apply h]
  pointwise [sideVec, every]

/-- A place. -/
theorem placeVec_apply (a b : FVec Ideal Nums .f32) (i : Fin 20000) : placeVec h a b (ix1 i) = place (a (ix1 i)) (b (ix1 i)) := by
  unfold place
  rw [← sideVec_apply h]
  pointwise [placeVec, every]

/-- A digit, clipped before the conversion. -/
theorem digitExactVec_apply (v : FVec Ideal Nums .f32) (i : Fin 20000) : digitExactVec h v (ix1 i) = digitExact (v (ix1 i)) := by
  pointwise [digitExactVec, digitExact]
  rfl

/-- A digit, clipped after the conversion. -/
theorem digitVec_apply (v : FVec Ideal Nums .f32) (i : Fin 20000) : digitVec h v (ix1 i) = digit (v (ix1 i)) := by
  pointwise [digitVec, digit]
  rfl

/-- Whether a digit agrees. -/
theorem agree_apply (d : IVec Nums 32) (i j : Fin 20000) : agree h d (ix2 i j) = BitVec.ofBool (decide (d (ix1 i) = d (ix1 j))) := by
  have e : (d (ix1 i) == d (ix1 j)) = decide (d (ix1 i) = d (ix1 j)) := rfl
  rw [← e]
  pointwise [agree]
  rfl

/-- Whether all four digits agree. -/
theorem samePairs_apply (d1 d2 d3 d4 : IVec Nums 32) (i j : Fin 20000) :
    samePairs h d1 d2 d3 d4 (ix2 i j)
      = BitVec.ofBool (decide (((d1 (ix1 i) = d1 (ix1 j) ∧ d2 (ix1 i) = d2 (ix1 j)) ∧ d3 (ix1 i) = d3 (ix1 j)) ∧ d4 (ix1 i) = d4 (ix1 j))) := by
  show ((agree h d1 (ix2 i j) &&& agree h d2 (ix2 i j)) &&& agree h d3 (ix2 i j)) &&& agree h d4 (ix2 i j) = _
  rw [agree_apply, agree_apply, agree_apply, agree_apply]
  by_cases h1 : d1 (ix1 i) = d1 (ix1 j) <;> by_cases h2 : d2 (ix1 i) = d2 (ix1 j) <;> by_cases h3 : d3 (ix1 i) = d3 (ix1 j)
    <;> by_cases h4 : d4 (ix1 i) = d4 (ix1 j) <;> simp [h1, h2, h3, h4]

/-- The greatest entry of a row of any matrix, taken from `init`, is at most `z` exactly when `init` and every entry are. -/
theorem rowMax_le {n m : ℕ} (x : FVec Ideal ⟨2, ![n, m]⟩ .f32) (init : FVec Ideal Pt .f32)
    (hr : (⟨2, ![n, m]⟩ : Shape).ReducesTo [1] ⟨1, ![n]⟩) (hu : 0 < Pt.numel) (i : Fin n) (z : EReal) :
    (Host.reduce (FloatOps.maximumf (F := Ideal) (φ := .f32)) x init hr hu (ix1 i) : Ideal .f32) ≤ z ↔ (init (Shape.Idx.first hu) : EReal) ≤ z ∧ ∀ j : Fin m, (x (ix2 i j) : EReal) ≤ z := by
  rw [Host.reduce_eq_fold]
  refine (Finset.fold_max_le (β := EReal) z).trans (and_congr Iff.rfl ?_)
  have hdrop (k : (⟨2, ![n, m]⟩ : Shape).Idx) : hr.drop k = ix1 i ↔ k 0 = i := by
    have hv : (hr.drop k 0 : ℕ) = k 0 := Shape.ReducesTo.drop_apply_val hr k 0
    constructor
    · intro e; rw [e] at hv; exact Fin.ext hv.symm
    · intro e; funext b; have hb : b = 0 := Subsingleton.elim _ _; subst hb; exact Fin.ext (by rw [hv, e]; rfl)
  constructor
  · intro hall j
    exact hall _ (Finset.mem_filter.2 ⟨Finset.mem_univ _, (hdrop _).2 rfl⟩)
  · intro hall k hk
    have hk0 := (hdrop k).1 (Finset.mem_filter.1 hk).2
    have e : ix2 i (k 1) = k := by
      funext b
      match b with
      | ⟨0, _⟩ => exact hk0.symm
      | ⟨1, _⟩ => rfl
    exact e ▸ hall (k 1)

/-- The bottom element as its word. -/
theorem bottom_word : Ideal.ofBits .f32 0xFF800000#32 = (⊥ : EReal) := by simp [Ideal.ofBits, Ideal.ieee]

/-- The scores of the cell of box `i`, the others pushed to the bottom. -/
theorem masked_apply (same : IVec Pairs 1) (s : FVec Ideal Nums .f32) (i j : Fin 20000) :
    select same (broadcastInDim Pairs ![0, 1] h.widePairs (broadcastInDim Wide ![1] h.wide s))
      (broadcastInDim Pairs ![] h.allPairs (id (constant (F := Ideal) Pt .f32 0xFF800000#32))) (ix2 i j)
      = if same (ix2 i j) = 1#1 then s (ix1 j) else (⊥ : EReal) := by
  rw [← bottom_word]
  pointwise [id]
  rfl

/-- A comparison converted to a number is an indicator. -/
theorem cmp_ind (x y : EReal) : (FloatOps.uitofp (F := Ideal) .f32 (FloatOps.cmpf (F := Ideal) (φ := .f32) .oge x y) : EReal) = ind (y ≤ x) := by
  classical
  show ((((BitVec.ofBool (decide (y ≤ x))).toNat : ℝ)) : EReal) = _
  unfold ind
  by_cases hyx : y ≤ x <;> simp [hyx]

/-- The same, for arrays of any shape. -/
theorem cmpVec_apply {t : Shape} (s b : FVec Ideal t .f32) (j : t.Idx) :
    (uitofp .f32 (cmpf .oge s b) : FVec Ideal t .f32) j = ind ((b j : EReal) ≤ s j) := cmp_ind _ _

/-- The greatest score of a cell is at most `z` exactly when every score of the cell is. -/
theorem bestVec_le (same : IVec Pairs 1) (s : FVec Ideal Nums .f32) (p : Fin 20000 → Fin 20000 → Prop) [∀ i j, Decidable (p i j)]
    (hp : ∀ i j, same (ix2 i j) = BitVec.ofBool (decide (p i j))) (i : Fin 20000) (z : EReal) :
    (bestVec h same s (ix1 i) : EReal) ≤ z ↔ ∀ j, p i j → (s (ix1 j) : EReal) ≤ z := by
  unfold bestVec
  rw [rowMax_le]
  constructor
  · intro hall j hj
    have := hall.2 j
    rw [masked_apply h, hp, if_pos (by rw [decide_eq_true hj]; rfl)] at this
    exact this
  · refine fun hall => ⟨le_of_eq_of_le bottom_word bot_le, fun j => ?_⟩
    rw [masked_apply h, hp]
    by_cases hj : p i j
    · rw [if_pos (by rw [decide_eq_true hj]; rfl)]; exact hall j hj
    · rw [if_neg (by rw [decide_eq_false hj]; decide)]; exact bot_le

/-- One entry of the survivors: one exactly when no box of the cell is scored higher. -/
theorem keepVec_apply (same : IVec Pairs 1) (s : FVec Ideal Nums .f32) (p : Fin 20000 → Fin 20000 → Prop) [∀ i j, Decidable (p i j)]
    (hp : ∀ i j, same (ix2 i j) = BitVec.ofBool (decide (p i j))) (i : Fin 20000) :
    keepVec h same s (ix1 i) = ind (∀ j, p i j → (s (ix1 j) : EReal) ≤ s (ix1 i)) := by
  unfold keepVec
  rw [cmpVec_apply]
  exact ind_congr (bestVec_le h same s p hp i _)

/-- One entry of the result. -/
theorem joined_apply (x : FVec Ideal Boxes .f32) (s w : FVec Ideal Nums .f32) (i : Fin 20000) (k : Fin 5) :
    joined h x s w (ix2 i k) = keptRow (fun a => x (ix2 i a)) (s (ix1 i)) (w (ix1 i)) k := by
  pointwise [joined, keptRow]

/-- One entry of a reference's result: the box or the score where the box survives, zero times it elsewhere. -/
theorem refResult_apply (dv : FVec Ideal Nums .f32 → IVec Nums 32) (d : EReal → BitVec 32)
    (hd : ∀ v i, dv v (ix1 i) = d (v (ix1 i))) (x : FVec Ideal Boxes .f32) (s : FVec Ideal Nums .f32) (i : Fin 20000) (k : Fin 5) :
    refResult h dv x s (ix2 i k)
      = keptRow (fun a => x (ix2 i a)) (s (ix1 i)) (ind (Survives d (fun j a => x (ix2 j a)) (fun j => s (ix1 j)) i)) k := by
  classical
  unfold refResult
  rw [joined_apply, keepVec_apply h _ s (fun i j => SameCell d (fun a => x (ix2 i a)) (fun a => x (ix2 j a)))]
  · rfl
  · intro i j
    rw [samePairs_apply]
    simp only [hd, sizeVec_apply, placeVec_apply, coord_apply]
    exact congrArg BitVec.ofBool (by congr)

end Cert.Hnms

end
-- ==== Proof.Equation.lean ====
/- The kernel's result is the reference's: the padding never outscores a box, and the packed keys agree exactly
   when the four digits do. -/
module

public import proofs.«01_k».proof.Proof.KernelRun
public import proofs.«01_k».proof.Proof.RefVec

@[expose] public section

set_option maxRecDepth 16384

noncomputable section

namespace Cert.Hnms

open Idealize Idealize.ShloMosaic Cert.KernelIdeal Cert.KernelIdeal.Gen

variable (m : (ℓ : Loc nD τ sig) → Buf (Elt Ideal) ℓ)

/-- A list lengthened behind its end, below its end. -/
theorem padded_of_lt (f : Fin 20000 → EReal) (z : EReal) (i : Fin 20000) (hi : i.val < 20480) : padded f z ⟨i.val, hi⟩ = f i :=
  dif_pos i.isLt

/-- A list lengthened behind its end, from its end on. -/
theorem padded_of_ge (f : Fin 20000 → EReal) (z : EReal) (i : Fin 20480) (h : ¬i.val < 20000) : padded f z i = z := dif_neg h

/-- Among the true boxes, one padded entry beats another exactly when the box does. -/
theorem padBeats_iff (c : Dev nD) (i j : Fin 20000) (hi : i.val < 20480) (hj : j.val < 20480) :
    PadBeats m c ⟨i.val, hi⟩ ⟨j.val, hj⟩
      ↔ Beats (fun a => boxes m c (ix2 i a)) (scores m c (ix1 i)) (fun a => boxes m c (ix2 j a)) (scores m c (ix1 j)) := by
  have e0 : (fun a => V m c main_v0 (ix2 ⟨i.val, hi⟩ a)) = fun a => boxes m c (ix2 i a) :=
    funext fun a => (V_v0 m c _ a).trans (padded_of_lt (fun k => boxes m c (ix2 k a)) 0 i hi)
  have e6 : (fun a => V m c main_v6 (ix2 a ⟨j.val, hj⟩)) = fun a => boxes m c (ix2 j a) :=
    funext fun a => (V_v6 m c _ a).trans (padded_of_lt (fun k => boxes m c (ix2 k a)) 0 j hj)
  have e2 := (V_v2 m c _).trans (padded_of_lt (fun k => scores m c (ix1 k)) 0 i hi)
  have e5 := (V_v5 m c _).trans (padded_of_lt (fun k => scores m c (ix1 k)) padScore j hj)
  exact iff_of_eq (congr (congr (congrArg₂ Beats e0 e2) e6) e5)

/-- The padding beats no box, if no score lies below the one that pads. -/
theorem padding_loses (c : Dev nD) (hs : ∀ i, padScore ≤ scores m c (ix1 i)) (i : Fin 20000) (hi : i.val < 20480) (j : Fin 20480)
    (hj : ¬j.val < 20000) : ¬PadBeats m c ⟨i.val, hi⟩ j := by
  unfold PadBeats
  rintro ⟨-, -, hlt⟩
  rw [V_v2, V_v5, padded_of_lt, padded_of_ge _ _ _ hj] at hlt
  exact absurd (hs i) (not_le.2 hlt)

/-- No padded entry beats box `i` exactly when the box survives. -/
theorem unbeaten_iff (c : Dev nD) (hs : ∀ i, padScore ≤ scores m c (ix1 i)) (i : Fin 20000) (hi : i.val < 20480) :
    (¬∃ j, PadBeats m c ⟨i.val, hi⟩ j) ↔ Survives digit (fun j a => boxes m c (ix2 j a)) (fun j => scores m c (ix1 j)) i := by
  constructor
  · intro hn j hc
    refine not_lt.1 fun hlt => hn ⟨⟨j.val, by have := j.isLt; omega⟩, (padBeats_iff m c i j hi _).2 ?_⟩
    have hk := (keys_eq_iff _ _).2 hc
    exact ⟨hk.1, hk.2, hlt⟩
  · rintro hsv ⟨j, hj⟩
    by_cases hlt : j.val < 20000
    · have hb := (padBeats_iff m c i ⟨j.val, hlt⟩ hi j.isLt).1 hj
      exact absurd (hsv ⟨j.val, hlt⟩ ((keys_eq_iff _ _).1 ⟨hb.1, hb.2.1⟩)) (not_le.2 hb.2.2)
    · exact padding_loses m c hs i hi j hlt hj

/-- The kernel's result equals the result of any reference whose digits tell the same boxes apart, if no score lies
    below the one that pads. -/
theorem kernel_eq (h : ShapesFit) (c : Dev nD) (hs : ∀ i, padScore ≤ scores m c (ix1 i))
    (dv : FVec Ideal Nums .f32 → IVec Nums 32) (d : EReal → BitVec 32) (hd : ∀ v i, dv v (ix1 i) = d (v (ix1 i)))
    (hsame : ∀ i j : Fin 20000, SameCell digit (fun a => boxes m c (ix2 i a)) (fun a => boxes m c (ix2 j a))
      ↔ SameCell d (fun a => boxes m c (ix2 i a)) (fun a => boxes m c (ix2 j a))) :
    (kernelResult m c : FVec Ideal Kept .f32) = refResult h dv (boxes m c) (scores m c) := by
  funext idx
  have e : idx = ix2 (idx 0) (idx 1) := by
    funext b
    match b with
    | ⟨0, _⟩ => rfl
    | ⟨1, _⟩ => rfl
  rw [e]
  refine (kernelResult_apply m c (idx 0) (idx 1)).trans (Eq.trans ?_ (refResult_apply h dv d hd _ _ (idx 0) (idx 1)).symm)
  refine congrArg (fun w => keptRow _ _ w _) ?_
  refine (one_sub_ind _).trans (ind_congr ?_)
  refine (unbeaten_iff m c hs (idx 0) _).trans (forall_congr' fun j => ?_)
  exact imp_congr (hsame _ _) Iff.rfl

end Cert.Hnms

end
-- ==== Proof.RefExact.lean ====
/- The result of the reference that clips its digits before the conversion, entry by entry. -/
module

public import proofs.«01_k».proof.Proof.RefVec
public import proofs.«01_k».proof.Proof.Gen.ReferenceIdeal.Run

@[expose] public section

set_option maxRecDepth 16384

noncomputable section

namespace Cert.Hnms.RefExact

open Idealize Idealize.ShloMosaic Cert.ReferenceIdeal Cert.ReferenceIdeal.Value

variable (m : (ℓ : Loc nD τ sig) → Buf (Elt Ideal) ℓ)

/-- The shape relations the program states are the ones asked for. -/
theorem shapesFit : ShapesFit where
  pt := Facts₀.h_S_
  all := Facts₀.bcast_S_S20000
  allPairs := Facts₀.bcast_S_S20000x20000
  tall := Facts₀.bcast_S20000_S20000x1_0
  wide := Facts₀.bcast_S20000_S1x20000_1
  tallPairs := Facts₀.bcast_S20000x1_S20000x20000_0_1
  widePairs := Facts₀.bcast_S1x20000_S20000x20000_0_1
  tallBoxes := Facts₀.bcast_S20000x1_S20000x4_0_1
  cols := Facts₀.reducesTo_S20000x20000_S20000_d1
  slices := fun
    | 0 => Facts₀.slices_S20000x4_S20000x1_0_0
    | 1 => Facts₀.slices_S20000x4_S20000x1_0_1
    | 2 => Facts₀.slices_S20000x4_S20000x1_0_2
    | 3 => Facts₀.slices_S20000x4_S20000x1_0_3
  flat := Facts₀.shapeCasts_S20000x1_S20000
  join := Facts₀.concatenates_S20000x4_S20000x1_S20000x5_d1

/-- The program's result is the result named piece by piece. -/
theorem result_eq (c : Dev nD) : (res_main_v99 (F := Ideal) m c : FVec Ideal Kept .f32)
    = refResult shapesFit (digitExactVec shapesFit) (m ((c.tc : Thread nD τ).loc main_arg0)) (m ((c.tc : Thread nD τ).loc main_arg1)) := by
  unfold res_main_v99 refResult joined keepVec bestVec samePairs agree digitExactVec placeVec sideVec sizeVec coord every
  rfl

/-- One entry of the result: the box or the score, times one where no box of the cell outscores it, else times zero. -/
theorem result_apply (c : Dev nD) (i : Fin 20000) (k : Fin 5) :
    (res_main_v99 (F := Ideal) m c : FVec Ideal Kept .f32) (ix2 i k)
      = keptRow (fun a => (m ((c.tc : Thread nD τ).loc main_arg0) : FVec Ideal Boxes .f32) (ix2 i a))
          ((m ((c.tc : Thread nD τ).loc main_arg1) : FVec Ideal Nums .f32) (ix1 i))
          (ind (Survives digitExact (fun j a => (m ((c.tc : Thread nD τ).loc main_arg0) : FVec Ideal Boxes .f32) (ix2 j a))
            (fun j => (m ((c.tc : Thread nD τ).loc main_arg1) : FVec Ideal Nums .f32) (ix1 j)) i)) k := by
  rw [result_eq]
  exact refResult_apply shapesFit _ _ (digitExactVec_apply shapesFit) _ _ i k

end Cert.Hnms.RefExact

end
-- ==== Proof.Pre.lean ====
/- The two preconditions, read back: what they say of every box and every score. -/
module

public import proofs.«01_k».proof.Proof.RefExact
public import proofs.«01_k».proof.Proof.Gen.Pre_cells_fit
public import proofs.«01_k».proof.Proof.Gen.Pre_conf_above_padding
public import Idealize.ShloMosaic.Lib.ReduceAll

@[expose] public section

set_option maxRecDepth 16384

noncomputable section

namespace Cert.Hnms

open Idealize.ShloMosaic

/-- Whether every entry of a test holds. -/
def allOf (p : IVec Nums 1) (hr : Nums.ReducesTo [0] Pt) (hu : 0 < Pt.numel) : IVec Pt 1 :=
  Host.reduce IntOp.andi p (constantI Pt 1 1#1) hr hu

/-- There is one index of a single number. -/
instance : Subsingleton Pt.Idx := ⟨fun _ _ => funext fun a => a.elim0⟩

/-- When every entry of a test holds, each does. -/
theorem allOf_entry (p : IVec Nums 1) (hr : Nums.ReducesTo [0] Pt) (hu : 0 < Pt.numel) (h : allOf p hr hu ix0 = 1#1) (i : Fin 20000) :
    p (ix1 i) = 1#1 :=
  Host.reduce_andi_all p _ hr hu ix0 h _

/-- A passed test "less than" is an inequality. -/
theorem lt_entry {t : Shape} (a b : FVec Ideal t .f32) (j : t.Idx) (h : cmpf .olt a b j = 1#1) : (a j : EReal) < b j := by
  classical
  have h' : BitVec.ofBool (decide ((a j : EReal) < b j)) = 1#1 := h
  by_contra hn
  rw [decide_eq_false hn] at h'
  exact absurd h' (by decide)

/-- A passed test "at least" is an inequality. -/
theorem ge_entry {t : Shape} (a b : FVec Ideal t .f32) (j : t.Idx) (h : cmpf .oge a b j = 1#1) : (b j : EReal) ≤ a j := by
  classical
  have h' : BitVec.ofBool (decide ((b j : EReal) ≤ a j)) = 1#1 := h
  by_contra hn
  rw [decide_eq_false hn] at h'
  exact absurd h' (by decide)

/-- One constant for every box, at an index. -/
theorem every_apply (h : ShapesFit) (w : BitVec 32) (i : Fin 20000) : every h w (ix1 i) = Ideal.ofBits .f32 w := by
  pointwise [every]

/-- The weaker precondition: no score lies below the one that pads. -/
theorem scores_of_pre (x : FVec Ideal Boxes .f32) (s : FVec Ideal Nums .f32)
    (hp : Cert.Pre_conf_above_padding.fn (F := Ideal) x s = fun _ => 1#1) (i : Fin 20000) : padScore ≤ s (ix1 i) := by
  have e : Cert.Pre_conf_above_padding.fn (F := Ideal) x s
      = allOf (cmpf .oge s (every RefExact.shapesFit 0xBF800000#32)) Cert.Pre_cells_fit.Gen.reducesTo_S20000_S_d0 RefExact.shapesFit.pt := by
    unfold Cert.Pre_conf_above_padding.fn allOf every
    rfl
  rw [e] at hp
  have := ge_entry _ _ _ (allOf_entry _ _ _ (congrFun hp ix0) i)
  rwa [every_apply] at this

/-- The stronger precondition: besides, the rounded numbers of every box stay below the bound. -/
theorem fits_of_pre (x : FVec Ideal Boxes .f32) (s : FVec Ideal Nums .f32)
    (hp : Cert.Pre_cells_fit.fn (F := Ideal) x s = fun _ => 1#1) (i : Fin 20000) :
    padScore ≤ s (ix1 i) ∧ Fits (fun a => x (ix2 i a)) := by
  have e : Cert.Pre_cells_fit.fn (F := Ideal) x s
      = andi (andi (andi (andi
          (allOf (cmpf .oge s (every RefExact.shapesFit 0xBF800000#32)) Cert.Pre_cells_fit.Gen.reducesTo_S20000_S_d0 RefExact.shapesFit.pt)
          (allOf (cmpf .olt (sizeVec RefExact.shapesFit (coord RefExact.shapesFit 0 x) (coord RefExact.shapesFit 2 x)) (every RefExact.shapesFit 0x4EFFFF80#32)) Cert.Pre_cells_fit.Gen.reducesTo_S20000_S_d0 RefExact.shapesFit.pt))
          (allOf (cmpf .olt (sizeVec RefExact.shapesFit (coord RefExact.shapesFit 1 x) (coord RefExact.shapesFit 3 x)) (every RefExact.shapesFit 0x4EFFFF80#32)) Cert.Pre_cells_fit.Gen.reducesTo_S20000_S_d0 RefExact.shapesFit.pt))
          (allOf (cmpf .olt (placeVec RefExact.shapesFit (coord RefExact.shapesFit 0 x) (coord RefExact.shapesFit 2 x)) (every RefExact.shapesFit 0x4EFFFF80#32)) Cert.Pre_cells_fit.Gen.reducesTo_S20000_S_d0 RefExact.shapesFit.pt))
          (allOf (cmpf .olt (placeVec RefExact.shapesFit (coord RefExact.shapesFit 1 x) (coord RefExact.shapesFit 3 x)) (every RefExact.shapesFit 0x4EFFFF80#32)) Cert.Pre_cells_fit.Gen.reducesTo_S20000_S_d0 RefExact.shapesFit.pt) := by
    unfold Cert.Pre_cells_fit.fn Cert.Pre_cells_fit.fn_part1 Cert.Pre_cells_fit.fn_part2 Cert.Pre_cells_fit.fn_part3 Cert.Pre_cells_fit.fn_round
      allOf placeVec sideVec sizeVec coord every
    rfl
  rw [e] at hp
  obtain ⟨hp, h4⟩ := IntOp.andi_eq_one.1 (congrFun hp ix0)
  obtain ⟨hp, h3⟩ := IntOp.andi_eq_one.1 hp
  obtain ⟨hp, h2⟩ := IntOp.andi_eq_one.1 hp
  obtain ⟨h0, h1⟩ := IntOp.andi_eq_one.1 hp
  have g0 := ge_entry _ _ _ (allOf_entry _ _ _ h0 i)
  have g1 := lt_entry _ _ _ (allOf_entry _ _ _ h1 i)
  have g2 := lt_entry _ _ _ (allOf_entry _ _ _ h2 i)
  have g3 := lt_entry _ _ _ (allOf_entry _ _ _ h3 i)
  have g4 := lt_entry _ _ _ (allOf_entry _ _ _ h4 i)
  rw [every_apply] at g0 g1 g2 g3 g4
  rw [sizeVec_apply, coord_apply, coord_apply] at g1 g2
  rw [placeVec_apply, coord_apply, coord_apply] at g3 g4
  exact ⟨g0, g1, g2, g3, g4⟩

end Cert.Hnms

end
-- ==== Proof.RefWord.lean ====
/- The result of the reference that clips its digits after the conversion, entry by entry. -/
module

public import proofs.«01_k».proof.Proof.RefVec
public import proofs.«01_k».proof.Proof.Gen.Reference32Ideal.Run

@[expose] public section

set_option maxRecDepth 16384

noncomputable section

namespace Cert.Hnms.RefWord

open Idealize Idealize.ShloMosaic Cert.Reference32Ideal Cert.Reference32Ideal.Value

variable (m : (ℓ : Loc nD τ sig) → Buf (Elt Ideal) ℓ)

/-- The shape relations the program states are the ones asked for. -/
theorem shapesFit : ShapesFit where
  pt := Facts₀.h_S_
  all := Facts₀.bcast_S_S20000
  allPairs := Facts₀.bcast_S_S20000x20000
  tall := Facts₀.bcast_S20000_S20000x1_0
  wide := Facts₀.bcast_S20000_S1x20000_1
  tallPairs := Facts₀.bcast_S20000x1_S20000x20000_0_1
  widePairs := Facts₀.bcast_S1x20000_S20000x20000_0_1
  tallBoxes := Facts₀.bcast_S20000x1_S20000x4_0_1
  cols := Facts₀.reducesTo_S20000x20000_S20000_d1
  slices := fun
    | 0 => Facts₀.slices_S20000x4_S20000x1_0_0
    | 1 => Facts₀.slices_S20000x4_S20000x1_0_1
    | 2 => Facts₀.slices_S20000x4_S20000x1_0_2
    | 3 => Facts₀.slices_S20000x4_S20000x1_0_3
  flat := Facts₀.shapeCasts_S20000x1_S20000
  join := Facts₀.concatenates_S20000x4_S20000x1_S20000x5_d1

/-- The program's result is the result named piece by piece. -/
theorem result_eq (c : Dev nD) : (res_main_v99 (F := Ideal) m c : FVec Ideal Kept .f32)
    = refResult shapesFit (digitVec shapesFit) (m ((c.tc : Thread nD τ).loc main_arg0)) (m ((c.tc : Thread nD τ).loc main_arg1)) := by
  unfold res_main_v99 refResult joined keepVec bestVec samePairs agree digitVec placeVec sideVec sizeVec coord every
  rfl

/-- One entry of the result: the box or the score, times one where no box of the cell outscores it, else times zero. -/
theorem result_apply (c : Dev nD) (i : Fin 20000) (k : Fin 5) :
    (res_main_v99 (F := Ideal) m c : FVec Ideal Kept .f32) (ix2 i k)
      = keptRow (fun a => (m ((c.tc : Thread nD τ).loc main_arg0) : FVec Ideal Boxes .f32) (ix2 i a))
          ((m ((c.tc : Thread nD τ).loc main_arg1) : FVec Ideal Nums .f32) (ix1 i))
          (ind (Survives digit (fun j a => (m ((c.tc : Thread nD τ).loc main_arg0) : FVec Ideal Boxes .f32) (ix2 j a))
            (fun j => (m ((c.tc : Thread nD τ).loc main_arg1) : FVec Ideal Nums .f32) (ix1 j)) i)) k := by
  rw [result_eq]
  exact refResult_apply shapesFit _ _ (digitVec_apply shapesFit) _ _ i k

end Cert.Hnms.RefWord

end
-- ==== Proof.lean ====
module

public import proofs.«01_k».proof.Defs
public import proofs.«01_k».proof.Proof.Gen.Kernel.Frame
public import proofs.«01_k».proof.Proof.Gen.Kernel
public import proofs.«01_k».proof.Proof.Gen.KernelIdeal
public import proofs.«01_k».proof.Proof.Gen.ReferenceIdeal
public import proofs.«01_k».proof.Proof.Gen.Reference32Ideal
public import proofs.«01_k».proof.Proof.Gen.Pre_cells_fit
public import proofs.«01_k».proof.Proof.Gen.Pre_conf_above_padding
public import proofs.«01_k».proof.Proof.Equation
public import proofs.«01_k».proof.Proof.Pre
public import proofs.«01_k».proof.Proof.RefExact
public import proofs.«01_k».proof.Proof.RefWord
public import Idealize.ShloMosaic.Lib.Claim

@[expose] public section

set_option maxRecDepth 16384

noncomputable section

namespace Cert.Proof

open Idealize.ShloMosaic Idealize.SL.Sem Cert.Hnms

/-- The exact reference runs, leaves its arguments as they were and every counter at zero. -/
theorem frame_exact : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The 32-bit reference runs, leaves its arguments as they were and every counter at zero. -/
theorem frame_word : Cert.quiescent_Reference32Ideal (hReference32Ideal := Cert.Reference32Ideal.Gen.facts) := fun m g _ =>
  (θ_run _ _ _).mono (fun r h => ⟨fun c => (h c).2, sem_eq_zero_of_no_sems (by decide) r.2⟩) (Cert.Reference32Ideal.Value.run (F := Ideal) m g)

/-- Where the scores reach the padding score and the cell numbers fit, the kernel's result is the exact reference's. -/
theorem algebraic_exact : Cert.algebraic_KernelIdeal_ReferenceIdeal_pre_cells_fit (hKernelIdeal := Cert.KernelIdeal.Gen.facts)
    (hReferenceIdeal := Cert.ReferenceIdeal.Gen.facts) (hPre_cells_fit := Cert.Pre_cells_fit.Gen.facts) := by
  intro m g m' g' hp ha
  refine ⟨fun c => kernelResult m c, kernel_run m g, ?_⟩
  refine (θ_run _ _ _).mono (fun r h c => ⟨(h c).1.trans ?_, (h c).2⟩) (Cert.ReferenceIdeal.Value.run (F := Ideal) m' g')
  refine (RefExact.result_eq m' c).trans ?_
  rw [(ha c).1, (ha c).2]
  exact (kernel_eq m RefExact.shapesFit c (fun i => (fits_of_pre _ _ (hp c) i).1) _ digitExact (digitExactVec_apply _)
    fun i j => (sameCell_exact_iff (fits_of_pre _ _ (hp c) i).2 (fits_of_pre _ _ (hp c) j).2).symm).symm

/-- Where the scores reach the padding score, the kernel's result is the 32-bit reference's. -/
theorem algebraic_word : Cert.algebraic_KernelIdeal_Reference32Ideal_pre_conf_above_padding (hKernelIdeal := Cert.KernelIdeal.Gen.facts)
    (hReference32Ideal := Cert.Reference32Ideal.Gen.facts) (hPre_conf_above_padding := Cert.Pre_conf_above_padding.Gen.facts) := by
  intro m g m' g' hp ha
  refine ⟨fun c => kernelResult m c, kernel_run m g, ?_⟩
  refine (θ_run _ _ _).mono (fun r h c => ⟨(h c).1.trans ?_, (h c).2⟩) (Cert.Reference32Ideal.Value.run (F := Ideal) m' g')
  refine (RefWord.result_eq m' c).trans ?_
  rw [(ha c).1, (ha c).2]
  exact (kernel_eq m RefWord.shapesFit c (scores_of_pre _ _ (hp c)) _ digit (digitVec_apply _) fun _ _ => Iff.rfl).symm

/-- Every claim of the certificate. -/
theorem claim : Cert.Claim :=
  ⟨Cert.Kernel.Gen.facts, Cert.KernelIdeal.Gen.facts, Cert.ReferenceIdeal.Gen.facts, Cert.Reference32Ideal.Gen.facts,
    Cert.Pre_cells_fit.Gen.facts, Cert.Pre_conf_above_padding.Gen.facts,
    fun m g _ => Cert.Kernel.Gen.frame m g,
    fun m g _ => Cert.KernelIdeal.Gen.frame m g,
    fun m g _ => Cert.KernelIdeal.Gen.frame m g,
    fun m g _ => Cert.KernelIdeal.Gen.frame m g,
    frame_exact,
    fun m g _ => frame_exact m g trivial,
    frame_word,
    fun m g _ => frame_word m g trivial,
    trivial,
    algebraic_exact,
    algebraic_word⟩

end Cert.Proof

end
